-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S3072x1024 : Shape := ⟨2, ![3072, 1024]⟩
abbrev S2x256x1024 : Shape := ⟨3, ![2, 256, 1024]⟩
abbrev S8 : Shape := ⟨1, ![8]⟩
abbrev S3 : Shape := ⟨1, ![3]⟩
abbrev S4 : Shape := ⟨1, ![4]⟩
abbrev S2 : Shape := ⟨1, ![2]⟩
abbrev S5 : Shape := ⟨1, ![5]⟩
abbrev S1 : Shape := ⟨1, ![1]⟩
abbrev S_ : Shape := ⟨0, ![]⟩
abbrev S256x1024 : Shape := ⟨2, ![256, 1024]⟩
abbrev S2048x1024 : Shape := ⟨2, ![2048, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S8192x1024, .f32⟩
  | .local _ .vmem, ⟨1, _⟩ => ⟨S8192x1024, .bf16⟩
  | .local _ .vmem, ⟨2, _⟩ => ⟨S3072x1024, .bf16⟩
  | .local _ .vmem, ⟨3, _⟩ => ⟨S2x256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32_15 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32_14 : BitVec 32 := 2048#32
  let v26 : BitVec 32 := Scalar.muli v13 c2048_i32_14
  let v27 : BitVec 32 := Scalar.addi v26 c0_i32_15
  let c0_i32_17 : BitVec 32 := 0#32
  ![v27.toNat, 0]
def k0_off2 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c2048_i32_59 : BitVec 32 := 2048#32
  let v90 : BitVec 32 := Scalar.muli v19 c2048_i32_59
  let c0_i32_60 : BitVec 32 := 0#32
  let v91 : BitVec 32 := Scalar.addi v90 c0_i32_60
  let c0_i32_62 : BitVec 32 := 0#32
  ![v91.toNat, 0]
def k0_off3 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c2048_i32_66 : BitVec 32 := 2048#32
  let v98 : BitVec 32 := Scalar.muli v23 c2048_i32_66
  let c0_i32_67 : BitVec 32 := 0#32
  let v99 : BitVec 32 := Scalar.addi v98 c0_i32_67
  let c0_i32_69 : BitVec 32 := 0#32
  ![v99.toNat, 0]
def k0_off4 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32_73 : BitVec 32 := 2048#32
  let v106 : BitVec 32 := Scalar.muli v16 c2048_i32_73
  let c0_i32_74 : BitVec 32 := 0#32
  let v107 : BitVec 32 := Scalar.addi v106 c0_i32_74
  let c0_i32_76 : BitVec 32 := 0#32
  ![v107.toNat, 0]
def k0_dev1 (d0 : Dev nD) : Nat :=
  let c0_i32_80 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_79 : BitVec 32 := 4#32
  let v113 : BitVec 32 := Scalar.muli v9 c4_i32_79
  let v114 : BitVec 32 := Scalar.addi c0_i32_80 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v115 : BitVec 32 := Scalar.muli v5 c2_i32_81
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v117 : BitVec 32 := Scalar.muli v8 c1_i32_82
  let v118 : BitVec 32 := Scalar.addi v116 v117
  v118.toNat
def k0_dev2 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_84 : BitVec 32 := 4#32
  let v119 : BitVec 32 := Scalar.muli v2 c4_i32_84
  let v120 : BitVec 32 := Scalar.addi c0_i32_85 v119
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_86 : BitVec 32 := 2#32
  let v121 : BitVec 32 := Scalar.muli v10 c2_i32_86
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v123 : BitVec 32 := Scalar.muli v8 c1_i32_87
  let v124 : BitVec 32 := Scalar.addi v122 v123
  v124.toNat
def k0_dev3 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v125 : BitVec 32 := Scalar.muli v2 c4_i32_89
  let v126 : BitVec 32 := Scalar.addi c0_i32_90 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v127 : BitVec 32 := Scalar.muli v5 c2_i32_91
  let v128 : BitVec 32 := Scalar.addi v126 v127
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_92 : BitVec 32 := 1#32
  let v129 : BitVec 32 := Scalar.muli v11 c1_i32_92
  let v130 : BitVec 32 := Scalar.addi v128 v129
  v130.toNat
def k0_off5 (d0 : Dev nD) (c0_i32_98 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32_97 : BitVec 32 := 2048#32
  let v135 : BitVec 32 := Scalar.muli v13 c2048_i32_97
  let v136 : BitVec 32 := Scalar.addi v135 c0_i32_98
  let v137 : Index := Scalar.indexCast v136
  let c0 : Index := 0#32
  ![v137.toNat, 0]
def k0_dev4 (d0 : Dev nD) : Nat :=
  let c0_i32_106 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_105 : BitVec 32 := 4#32
  let v145 : BitVec 32 := Scalar.muli v9 c4_i32_105
  let v146 : BitVec 32 := Scalar.addi c0_i32_106 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v147 : BitVec 32 := Scalar.muli v5 c2_i32_107
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v149 : BitVec 32 := Scalar.muli v8 c1_i32_108
  let v150 : BitVec 32 := Scalar.addi v148 v149
  v150.toNat
def k0_dev5 (d0 : Dev nD) : Nat :=
  let c0_i32_124 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_123 : BitVec 32 := 4#32
  let v171 : BitVec 32 := Scalar.muli v9 c4_i32_123
  let v172 : BitVec 32 := Scalar.addi c0_i32_124 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_125 : BitVec 32 := 2#32
  let v173 : BitVec 32 := Scalar.muli v5 c2_i32_125
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v175 : BitVec 32 := Scalar.muli v8 c1_i32_126
  let v176 : BitVec 32 := Scalar.addi v174 v175
  v176.toNat
def k0_dev6 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v197 : BitVec 32 := Scalar.muli v9 c4_i32_141
  let v198 : BitVec 32 := Scalar.addi c0_i32_142 v197
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v199 : BitVec 32 := Scalar.muli v5 c2_i32_143
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v201 : BitVec 32 := Scalar.muli v8 c1_i32_144
  let v202 : BitVec 32 := Scalar.addi v200 v201
  v202.toNat
def k0_dev7 (d0 : Dev nD) : Nat :=
  let c0_i32_160 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_159 : BitVec 32 := 4#32
  let v223 : BitVec 32 := Scalar.muli v9 c4_i32_159
  let v224 : BitVec 32 := Scalar.addi c0_i32_160 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v225 : BitVec 32 := Scalar.muli v5 c2_i32_161
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v227 : BitVec 32 := Scalar.muli v8 c1_i32_162
  let v228 : BitVec 32 := Scalar.addi v226 v227
  v228.toNat
def k0_dev8 (d0 : Dev nD) : Nat :=
  let c0_i32_178 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_177 : BitVec 32 := 4#32
  let v249 : BitVec 32 := Scalar.muli v9 c4_i32_177
  let v250 : BitVec 32 := Scalar.addi c0_i32_178 v249
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v251 : BitVec 32 := Scalar.muli v5 c2_i32_179
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v253 : BitVec 32 := Scalar.muli v8 c1_i32_180
  let v254 : BitVec 32 := Scalar.addi v252 v253
  v254.toNat
def k0_dev9 (d0 : Dev nD) : Nat :=
  let c0_i32_196 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_195 : BitVec 32 := 4#32
  let v275 : BitVec 32 := Scalar.muli v9 c4_i32_195
  let v276 : BitVec 32 := Scalar.addi c0_i32_196 v275
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v277 : BitVec 32 := Scalar.muli v5 c2_i32_197
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v279 : BitVec 32 := Scalar.muli v8 c1_i32_198
  let v280 : BitVec 32 := Scalar.addi v278 v279
  v280.toNat
def k0_dev10 (d0 : Dev nD) : Nat :=
  let c0_i32_214 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_213 : BitVec 32 := 4#32
  let v301 : BitVec 32 := Scalar.muli v9 c4_i32_213
  let v302 : BitVec 32 := Scalar.addi c0_i32_214 v301
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v303 : BitVec 32 := Scalar.muli v5 c2_i32_215
  let v304 : BitVec 32 := Scalar.addi v302 v303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v305 : BitVec 32 := Scalar.muli v8 c1_i32_216
  let v306 : BitVec 32 := Scalar.addi v304 v305
  v306.toNat
def k0_dev11 (d0 : Dev nD) : Nat :=
  let c0_i32_232 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_231 : BitVec 32 := 4#32
  let v327 : BitVec 32 := Scalar.muli v9 c4_i32_231
  let v328 : BitVec 32 := Scalar.addi c0_i32_232 v327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v329 : BitVec 32 := Scalar.muli v5 c2_i32_233
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_234 : BitVec 32 := 1#32
  let v331 : BitVec 32 := Scalar.muli v8 c1_i32_234
  let v332 : BitVec 32 := Scalar.addi v330 v331
  v332.toNat
def k0_dev12 (d0 : Dev nD) : Nat :=
  let c0_i32_254 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_253 : BitVec 32 := 4#32
  let v353 : BitVec 32 := Scalar.muli v2 c4_i32_253
  let v354 : BitVec 32 := Scalar.addi c0_i32_254 v353
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_255 : BitVec 32 := 2#32
  let v355 : BitVec 32 := Scalar.muli v10 c2_i32_255
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v357 : BitVec 32 := Scalar.muli v8 c1_i32_256
  let v358 : BitVec 32 := Scalar.addi v356 v357
  v358.toNat
def k0_dev13 (d0 : Dev nD) : Nat :=
  let c0_i32_266 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_265 : BitVec 32 := 4#32
  let v369 : BitVec 32 := Scalar.muli v2 c4_i32_265
  let v370 : BitVec 32 := Scalar.addi c0_i32_266 v369
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_267 : BitVec 32 := 2#32
  let v371 : BitVec 32 := Scalar.muli v5 c2_i32_267
  let v372 : BitVec 32 := Scalar.addi v370 v371
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_268 : BitVec 32 := 1#32
  let v373 : BitVec 32 := Scalar.muli v11 c1_i32_268
  let v374 : BitVec 32 := Scalar.addi v372 v373
  v374.toNat
def k0_dev14 (d0 : Dev nD) : Nat :=
  let c0_i32_303 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_302 : BitVec 32 := 4#32
  let v415 : BitVec 32 := Scalar.muli v2 c4_i32_302
  let v416 : BitVec 32 := Scalar.addi c0_i32_303 v415
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_304 : BitVec 32 := 2#32
  let v417 : BitVec 32 := Scalar.muli v10 c2_i32_304
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_305 : BitVec 32 := 1#32
  let v419 : BitVec 32 := Scalar.muli v8 c1_i32_305
  let v420 : BitVec 32 := Scalar.addi v418 v419
  v420.toNat
def k0_dev15 (d0 : Dev nD) : Nat :=
  let c0_i32_315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_314 : BitVec 32 := 4#32
  let v431 : BitVec 32 := Scalar.muli v2 c4_i32_314
  let v432 : BitVec 32 := Scalar.addi c0_i32_315 v431
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_316 : BitVec 32 := 2#32
  let v433 : BitVec 32 := Scalar.muli v5 c2_i32_316
  let v434 : BitVec 32 := Scalar.addi v432 v433
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_317 : BitVec 32 := 1#32
  let v435 : BitVec 32 := Scalar.muli v11 c1_i32_317
  let v436 : BitVec 32 := Scalar.addi v434 v435
  v436.toNat
def k0_dev16 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v477 : BitVec 32 := Scalar.muli v2 c4_i32_350
  let v478 : BitVec 32 := Scalar.addi c0_i32_351 v477
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_352 : BitVec 32 := 2#32
  let v479 : BitVec 32 := Scalar.muli v10 c2_i32_352
  let v480 : BitVec 32 := Scalar.addi v478 v479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_353 : BitVec 32 := 1#32
  let v481 : BitVec 32 := Scalar.muli v8 c1_i32_353
  let v482 : BitVec 32 := Scalar.addi v480 v481
  v482.toNat
def k0_dev17 (d0 : Dev nD) : Nat :=
  let c0_i32_363 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_362 : BitVec 32 := 4#32
  let v493 : BitVec 32 := Scalar.muli v2 c4_i32_362
  let v494 : BitVec 32 := Scalar.addi c0_i32_363 v493
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v495 : BitVec 32 := Scalar.muli v5 c2_i32_364
  let v496 : BitVec 32 := Scalar.addi v494 v495
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_365 : BitVec 32 := 1#32
  let v497 : BitVec 32 := Scalar.muli v11 c1_i32_365
  let v498 : BitVec 32 := Scalar.addi v496 v497
  v498.toNat
def k0_dev18 (d0 : Dev nD) : Nat :=
  let c0_i32_405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_404 : BitVec 32 := 4#32
  let v544 : BitVec 32 := Scalar.muli v2 c4_i32_404
  let v545 : BitVec 32 := Scalar.addi c0_i32_405 v544
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_406 : BitVec 32 := 2#32
  let v546 : BitVec 32 := Scalar.muli v10 c2_i32_406
  let v547 : BitVec 32 := Scalar.addi v545 v546
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_407 : BitVec 32 := 1#32
  let v548 : BitVec 32 := Scalar.muli v8 c1_i32_407
  let v549 : BitVec 32 := Scalar.addi v547 v548
  v549.toNat
def k0_dev19 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_416 : BitVec 32 := 4#32
  let v560 : BitVec 32 := Scalar.muli v2 c4_i32_416
  let v561 : BitVec 32 := Scalar.addi c0_i32_417 v560
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_418 : BitVec 32 := 2#32
  let v562 : BitVec 32 := Scalar.muli v5 c2_i32_418
  let v563 : BitVec 32 := Scalar.addi v561 v562
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_419 : BitVec 32 := 1#32
  let v564 : BitVec 32 := Scalar.muli v11 c1_i32_419
  let v565 : BitVec 32 := Scalar.addi v563 v564
  v565.toNat
def k0_dev20 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v611 : BitVec 32 := Scalar.muli v2 c4_i32_458
  let v612 : BitVec 32 := Scalar.addi c0_i32_459 v611
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_460 : BitVec 32 := 2#32
  let v613 : BitVec 32 := Scalar.muli v10 c2_i32_460
  let v614 : BitVec 32 := Scalar.addi v612 v613
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_461 : BitVec 32 := 1#32
  let v615 : BitVec 32 := Scalar.muli v8 c1_i32_461
  let v616 : BitVec 32 := Scalar.addi v614 v615
  v616.toNat
def k0_dev21 (d0 : Dev nD) : Nat :=
  let c0_i32_471 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_470 : BitVec 32 := 4#32
  let v627 : BitVec 32 := Scalar.muli v2 c4_i32_470
  let v628 : BitVec 32 := Scalar.addi c0_i32_471 v627
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_472 : BitVec 32 := 2#32
  let v629 : BitVec 32 := Scalar.muli v5 c2_i32_472
  let v630 : BitVec 32 := Scalar.addi v628 v629
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_473 : BitVec 32 := 1#32
  let v631 : BitVec 32 := Scalar.muli v11 c1_i32_473
  let v632 : BitVec 32 := Scalar.addi v630 v631
  v632.toNat
def k0_off6 (d0 : Dev nD) (c1280_i32_501 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c2048_i32_500 : BitVec 32 := 2048#32
  let v668 : BitVec 32 := Scalar.muli v19 c2048_i32_500
  let v669 : BitVec 32 := Scalar.addi v668 c1280_i32_501
  let v670 : Index := Scalar.indexCast v669
  let c0_502 : Index := 0#32
  ![v670.toNat, 0]
def k0_off7 (d0 : Dev nD) (c1280_i32_505 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c2048_i32_504 : BitVec 32 := 2048#32
  let v676 : BitVec 32 := Scalar.muli v19 c2048_i32_504
  let v677 : BitVec 32 := Scalar.addi v676 c1280_i32_505
  let c0_i32_512 : BitVec 32 := 0#32
  ![v677.toNat, 0]
def k0_dev22 (d0 : Dev nD) : Nat :=
  let c0_i32_509 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_508 : BitVec 32 := 4#32
  let v678 : BitVec 32 := Scalar.muli v9 c4_i32_508
  let v679 : BitVec 32 := Scalar.addi c0_i32_509 v678
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_510 : BitVec 32 := 2#32
  let v680 : BitVec 32 := Scalar.muli v5 c2_i32_510
  let v681 : BitVec 32 := Scalar.addi v679 v680
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_511 : BitVec 32 := 1#32
  let v682 : BitVec 32 := Scalar.muli v8 c1_i32_511
  let v683 : BitVec 32 := Scalar.addi v681 v682
  v683.toNat
def k0_dev23 (d0 : Dev nD) : Nat :=
  let c0_i32_524 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_523 : BitVec 32 := 4#32
  let v700 : BitVec 32 := Scalar.muli v9 c4_i32_523
  let v701 : BitVec 32 := Scalar.addi c0_i32_524 v700
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_525 : BitVec 32 := 2#32
  let v702 : BitVec 32 := Scalar.muli v5 c2_i32_525
  let v703 : BitVec 32 := Scalar.addi v701 v702
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_526 : BitVec 32 := 1#32
  let v704 : BitVec 32 := Scalar.muli v8 c1_i32_526
  let v705 : BitVec 32 := Scalar.addi v703 v704
  v705.toNat
def k0_dev24 (d0 : Dev nD) : Nat :=
  let c0_i32_538 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_537 : BitVec 32 := 4#32
  let v722 : BitVec 32 := Scalar.muli v9 c4_i32_537
  let v723 : BitVec 32 := Scalar.addi c0_i32_538 v722
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_539 : BitVec 32 := 2#32
  let v724 : BitVec 32 := Scalar.muli v5 c2_i32_539
  let v725 : BitVec 32 := Scalar.addi v723 v724
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_540 : BitVec 32 := 1#32
  let v726 : BitVec 32 := Scalar.muli v8 c1_i32_540
  let v727 : BitVec 32 := Scalar.addi v725 v726
  v727.toNat
def k0_dev25 (d0 : Dev nD) : Nat :=
  let c0_i32_559 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_558 : BitVec 32 := 4#32
  let v748 : BitVec 32 := Scalar.muli v2 c4_i32_558
  let v749 : BitVec 32 := Scalar.addi c0_i32_559 v748
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_560 : BitVec 32 := 2#32
  let v750 : BitVec 32 := Scalar.muli v10 c2_i32_560
  let v751 : BitVec 32 := Scalar.addi v749 v750
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_561 : BitVec 32 := 1#32
  let v752 : BitVec 32 := Scalar.muli v8 c1_i32_561
  let v753 : BitVec 32 := Scalar.addi v751 v752
  v753.toNat
def k0_off8 (d0 : Dev nD) (c1792_i32_589 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c2048_i32_588 : BitVec 32 := 2048#32
  let v789 : BitVec 32 := Scalar.muli v23 c2048_i32_588
  let v790 : BitVec 32 := Scalar.addi v789 c1792_i32_589
  let v791 : Index := Scalar.indexCast v790
  let c0_590 : Index := 0#32
  ![v791.toNat, 0]
def k0_off9 (d0 : Dev nD) (c1792_i32_593 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c2048_i32_592 : BitVec 32 := 2048#32
  let v797 : BitVec 32 := Scalar.muli v23 c2048_i32_592
  let v798 : BitVec 32 := Scalar.addi v797 c1792_i32_593
  let c0_i32_600 : BitVec 32 := 0#32
  ![v798.toNat, 0]
def k0_dev26 (d0 : Dev nD) : Nat :=
  let c0_i32_597 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_596 : BitVec 32 := 4#32
  let v799 : BitVec 32 := Scalar.muli v9 c4_i32_596
  let v800 : BitVec 32 := Scalar.addi c0_i32_597 v799
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v801 : BitVec 32 := Scalar.muli v5 c2_i32_598
  let v802 : BitVec 32 := Scalar.addi v800 v801
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_599 : BitVec 32 := 1#32
  let v803 : BitVec 32 := Scalar.muli v8 c1_i32_599
  let v804 : BitVec 32 := Scalar.addi v802 v803
  v804.toNat
def k0_dev27 (d0 : Dev nD) : Nat :=
  let c0_i32_618 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_617 : BitVec 32 := 4#32
  let v825 : BitVec 32 := Scalar.muli v2 c4_i32_617
  let v826 : BitVec 32 := Scalar.addi c0_i32_618 v825
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_619 : BitVec 32 := 2#32
  let v827 : BitVec 32 := Scalar.muli v10 c2_i32_619
  let v828 : BitVec 32 := Scalar.addi v826 v827
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_620 : BitVec 32 := 1#32
  let v829 : BitVec 32 := Scalar.muli v8 c1_i32_620
  let v830 : BitVec 32 := Scalar.addi v828 v829
  v830.toNat
def k0_dev28 (d0 : Dev nD) : Nat :=
  let c0_i32_660 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_659 : BitVec 32 := 4#32
  let v876 : BitVec 32 := Scalar.muli v2 c4_i32_659
  let v877 : BitVec 32 := Scalar.addi c0_i32_660 v876
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_661 : BitVec 32 := 2#32
  let v878 : BitVec 32 := Scalar.muli v10 c2_i32_661
  let v879 : BitVec 32 := Scalar.addi v877 v878
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_662 : BitVec 32 := 1#32
  let v880 : BitVec 32 := Scalar.muli v8 c1_i32_662
  let v881 : BitVec 32 := Scalar.addi v879 v880
  v881.toNat
def k0_off10 (d0 : Dev nD) (c0_i32_692 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32_691 : BitVec 32 := 2048#32
  let v919 : BitVec 32 := Scalar.muli v16 c2048_i32_691
  let v920 : BitVec 32 := Scalar.addi v919 c0_i32_692
  let c0_i32_699 : BitVec 32 := 0#32
  ![v920.toNat, 0]
def k0_off11 (d0 : Dev nD) (c0_i32_707 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32_706 : BitVec 32 := 2048#32
  let v936 : BitVec 32 := Scalar.muli v16 c2048_i32_706
  let v937 : BitVec 32 := Scalar.addi v936 c0_i32_707
  let v938 : Index := Scalar.indexCast v937
  let c0_708 : Index := 0#32
  ![v938.toNat, 0]
def k0_dev29 (d0 : Dev nD) : Nat :=
  let c0_i32_774 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_773 : BitVec 32 := 4#32
  let v1013 : BitVec 32 := Scalar.muli v2 c4_i32_773
  let v1014 : BitVec 32 := Scalar.addi c0_i32_774 v1013
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_775 : BitVec 32 := 2#32
  let v1015 : BitVec 32 := Scalar.muli v5 c2_i32_775
  let v1016 : BitVec 32 := Scalar.addi v1014 v1015
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_776 : BitVec 32 := 1#32
  let v1017 : BitVec 32 := Scalar.muli v11 c1_i32_776
  let v1018 : BitVec 32 := Scalar.addi v1016 v1017
  v1018.toNat
def k0_dev30 (d0 : Dev nD) : Nat :=
  let c0_i32_819 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_818 : BitVec 32 := 4#32
  let v1068 : BitVec 32 := Scalar.muli v2 c4_i32_818
  let v1069 : BitVec 32 := Scalar.addi c0_i32_819 v1068
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_820 : BitVec 32 := 2#32
  let v1070 : BitVec 32 := Scalar.muli v5 c2_i32_820
  let v1071 : BitVec 32 := Scalar.addi v1069 v1070
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_821 : BitVec 32 := 1#32
  let v1072 : BitVec 32 := Scalar.muli v11 c1_i32_821
  let v1073 : BitVec 32 := Scalar.addi v1071 v1072
  v1073.toNat
def k0_dev31 (d0 : Dev nD) : Nat :=
  let c0_i32_864 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_863 : BitVec 32 := 4#32
  let v1123 : BitVec 32 := Scalar.muli v2 c4_i32_863
  let v1124 : BitVec 32 := Scalar.addi c0_i32_864 v1123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_865 : BitVec 32 := 2#32
  let v1125 : BitVec 32 := Scalar.muli v5 c2_i32_865
  let v1126 : BitVec 32 := Scalar.addi v1124 v1125
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_866 : BitVec 32 := 1#32
  let v1127 : BitVec 32 := Scalar.muli v11 c1_i32_866
  let v1128 : BitVec 32 := Scalar.addi v1126 v1127
  v1128.toNat
def k0_dev32 (d0 : Dev nD) : Nat :=
  let c0_i32_909 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_908 : BitVec 32 := 4#32
  let v1178 : BitVec 32 := Scalar.muli v2 c4_i32_908
  let v1179 : BitVec 32 := Scalar.addi c0_i32_909 v1178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_910 : BitVec 32 := 2#32
  let v1180 : BitVec 32 := Scalar.muli v5 c2_i32_910
  let v1181 : BitVec 32 := Scalar.addi v1179 v1180
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_911 : BitVec 32 := 1#32
  let v1182 : BitVec 32 := Scalar.muli v11 c1_i32_911
  let v1183 : BitVec 32 := Scalar.addi v1181 v1182
  v1183.toNat
def k0_dev33 (d0 : Dev nD) : Nat :=
  let c0_i32_954 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_953 : BitVec 32 := 4#32
  let v1233 : BitVec 32 := Scalar.muli v2 c4_i32_953
  let v1234 : BitVec 32 := Scalar.addi c0_i32_954 v1233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_955 : BitVec 32 := 2#32
  let v1235 : BitVec 32 := Scalar.muli v5 c2_i32_955
  let v1236 : BitVec 32 := Scalar.addi v1234 v1235
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_956 : BitVec 32 := 1#32
  let v1237 : BitVec 32 := Scalar.muli v11 c1_i32_956
  let v1238 : BitVec 32 := Scalar.addi v1236 v1237
  v1238.toNat
def k0_dev34 (d0 : Dev nD) : Nat :=
  let c0_i32_1028 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1027 : BitVec 32 := 4#32
  let v1323 : BitVec 32 := Scalar.muli v2 c4_i32_1027
  let v1324 : BitVec 32 := Scalar.addi c0_i32_1028 v1323
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1029 : BitVec 32 := 2#32
  let v1325 : BitVec 32 := Scalar.muli v10 c2_i32_1029
  let v1326 : BitVec 32 := Scalar.addi v1324 v1325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1030 : BitVec 32 := 1#32
  let v1327 : BitVec 32 := Scalar.muli v8 c1_i32_1030
  let v1328 : BitVec 32 := Scalar.addi v1326 v1327
  v1328.toNat
def k0_dev35 (d0 : Dev nD) : Nat :=
  let c0_i32_1069 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1068 : BitVec 32 := 4#32
  let v1374 : BitVec 32 := Scalar.muli v2 c4_i32_1068
  let v1375 : BitVec 32 := Scalar.addi c0_i32_1069 v1374
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1070 : BitVec 32 := 2#32
  let v1376 : BitVec 32 := Scalar.muli v10 c2_i32_1070
  let v1377 : BitVec 32 := Scalar.addi v1375 v1376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1071 : BitVec 32 := 1#32
  let v1378 : BitVec 32 := Scalar.muli v8 c1_i32_1071
  let v1379 : BitVec 32 := Scalar.addi v1377 v1378
  v1379.toNat
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | .hbm, ⟨4, _⟩ => ⟨S8192x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/-
# The kernel's body written step by step

The printed body is one long run of operations. Here it is written again as a short program over
named steps (fetch a chunk, inject a chunk, receive, forward, emit), each a function of the quarter
and the chunk it works on. `Proof/Same.lean` proves the two equal; everything else speaks of this
one.

A device sits at `c = 4 x + 2 y + z` of a `2 x 2 x 2` mesh. The `8192` rows are four quarters of
`2048`, a quarter is eight chunks of `256` rows. From a device's place the quarters are named: its
own, that of its `y` neighbour, that of its `z` neighbour (`za`), and the diagonal one (`zb`).
-/
module

public import proofs.«01_k».proof.Proof.Gen.KernelIdeal.Skeleton
public import proofs.«01_k».proof.Proof.Gen.KernelIdeal.Launch

@[expose] public section

noncomputable section

namespace Cert.KernelIdeal.Hop

open Cert.KernelIdeal Cert.KernelIdeal.Gen
open Idealize.ShloMosaic Idealize.ShloMosaic.TcCoe
open Idealize.SL Idealize.SL.Sem

variable {F : FTy → Type} [FloatOps F]

/-- The four quarters of the rows, as a device sees them. -/
inductive Quart
  | own | y | za | zb
  deriving DecidableEq

/-- Programs of one device that return nothing. -/
abbrev PG (F : FTy → Type) : Type 1 := Prog (TpuEff nD τ sig (Elt F) Λ₀ .tc) PUnit

/-- Run `step` on the members of a list in turn. -/
def forP {α : Type} (step : α → PG F) : List α → PG F
  | [] => .ret ⟨⟩
  | a :: l => step a >>= fun _ => forP step l

/-! ## The references -/

abbrev xM : Memref sig .tc .hbm S8192x1024 .f32 := Memref.whole main_arg0
abbrev outM : Memref sig .tc .hbm S8192x1024 .bf16 := Memref.whole main_v1
abbrev locM : Memref sig .tc .vmem S8192x1024 .f32 := Memref.whole cc0_scratch0
abbrev remM : Memref sig .tc .vmem S8192x1024 .bf16 := Memref.whole cc0_scratch1
abbrev sqM : Memref sig .tc .vmem S3072x1024 .bf16 := Memref.whole cc0_scratch2
abbrev osM : Memref sig .tc .vmem S2x256x1024 .bf16 := Memref.whole cc0_scratch3

/-! ## Offsets of a chunk: as the slices compute them and as the loads and stores compute them -/

/-- The first row of chunk `k` of quarter `q`, as the transfers compute it. -/
def mOff (q : Quart) (c : Dev nD) (k : Fin 8) : Fin 2 → ℕ :=
  match q with
  | .own => k0_off1 c (BitVec.ofNat 32 (256 * k.val))
  | .y => k0_off10 c (BitVec.ofNat 32 (256 * k.val))
  | .za => k0_off7 c (BitVec.ofNat 32 (256 * k.val))
  | .zb => k0_off9 c (BitVec.ofNat 32 (256 * k.val))

/-- The first row of chunk `k` of quarter `q`, as the loads compute it. -/
def lOff (q : Quart) (c : Dev nD) (k : Fin 8) : Fin 2 → ℕ :=
  match q with
  | .own => k0_off5 c (BitVec.ofNat 32 (256 * k.val))
  | .y => k0_off11 c (BitVec.ofNat 32 (256 * k.val))
  | .za => k0_off6 c (BitVec.ofNat 32 (256 * k.val))
  | .zb => k0_off8 c (BitVec.ofNat 32 (256 * k.val))

theorem mOff_inb (q : Quart) (c : Dev nD) (k : Fin 8) :
    ∀ a, mOff q c k a + S256x1024.size a ≤ S8192x1024.size a := by
  cases q
  · exact k0_off1_inb c k
  · exact k0_off10_inb c k
  · exact k0_off7_inb c k
  · exact k0_off9_inb c k

theorem lOff_inb (q : Quart) (c : Dev nD) (k : Fin 8) :
    ∀ a, lOff q c k a + S256x1024.size a ≤ S8192x1024.size a := by
  cases q
  · exact k0_off5_inb c k
  · exact k0_off11_inb c k
  · exact k0_off6_inb c k
  · exact k0_off8_inb c k

theorem mOff_words (q : Quart) (c : Dev nD) (k : Fin 8) :
    (Rect.unit (s := S8192x1024) (mOff q c k) S256x1024.size (mOff_inb q c k)).WholeWords (EltTy.packing .bf16) := by
  cases q
  · exact k0_off1_wordsbf16 c k
  · exact k0_off10_wordsbf16 c k
  · exact k0_off7_wordsbf16 c k
  · exact k0_off9_wordsbf16 c k

/-- The first row of a whole quarter other than the device's own, in the order they are fetched. -/
def bOff (b : Fin 3) (c : Dev nD) : Fin 2 → ℕ :=
  match b with
  | 0 => k0_off2 c
  | 1 => k0_off3 c
  | 2 => k0_off4 c

theorem bOff_inb (b : Fin 3) (c : Dev nD) :
    ∀ a, bOff b c a + S2048x1024.size a ≤ S8192x1024.size a := by
  fin_cases b
  · exact k0_off2_inb c
  · exact k0_off3_inb c
  · exact k0_off4_inb c

/-! ## Parts of the references -/

abbrev mRect (q : Quart) (c : Dev nD) (k : Fin 8) : Rect S8192x1024 :=
  Rect.unit (s := S8192x1024) (mOff q c k) S256x1024.size (mOff_inb q c k)

abbrev lRect (q : Quart) (c : Dev nD) (k : Fin 8) : Rect S8192x1024 :=
  Rect.unit (s := S8192x1024) (lOff q c k) S256x1024.size (lOff_inb q c k)

abbrev bRect (b : Fin 3) (c : Dev nD) : Rect S8192x1024 :=
  Rect.unit (s := S8192x1024) (bOff b c) S2048x1024.size (bOff_inb b c)

theorem sq_inb (i : Fin 12) : ∀ a, (![256 * i.val, 0] : Fin 2 → ℕ) a + S256x1024.size a ≤ S3072x1024.size a := by
  revert i; decide +kernel

abbrev sqRect (i : Fin 12) : Rect S3072x1024 :=
  Rect.unit (s := S3072x1024) ![256 * i.val, 0] S256x1024.size (sq_inb i)

theorem sq_words : ∀ i : Fin 12, (sqRect i).WholeWords (EltTy.packing .bf16) := by decide +kernel
theorem sq_packed : ∀ i : Fin 12, (sqRect i).PackedRows (EltTy.packing .bf16) := by decide +kernel

theorem os_inb (s : Fin 2) : ∀ a, (![s.val, 0, 0] : Fin 3 → ℕ) a + S1x256x1024.size a ≤ S2x256x1024.size a := by
  revert s; decide +kernel

abbrev osRect (s : Fin 2) : Rect S2x256x1024 :=
  Rect.unit (s := S2x256x1024) ![s.val, 0, 0] S1x256x1024.size (os_inb s)

theorem os_words : ∀ s : Fin 2, (osRect s).WholeWords (EltTy.packing .bf16) := by decide +kernel
theorem os_packed : ∀ s : Fin 2, (osRect s).PackedRows (EltTy.packing .bf16) := by decide +kernel

abbrev xC (q : Quart) (c : Dev nD) (k : Fin 8) : Memref sig .tc .hbm S256x1024 .f32 := xM.slice (mRect q c k) (fun _ => rfl)
abbrev locC (q : Quart) (c : Dev nD) (k : Fin 8) : Memref sig .tc .vmem S256x1024 .f32 := locM.slice (mRect q c k) (fun _ => rfl)
abbrev remC (q : Quart) (c : Dev nD) (k : Fin 8) : Memref sig .tc .vmem S256x1024 .bf16 := remM.slice (mRect q c k) (fun _ => rfl)
abbrev outC (q : Quart) (c : Dev nD) (k : Fin 8) : Memref sig .tc .hbm S256x1024 .bf16 := outM.slice (mRect q c k) (fun _ => rfl)
abbrev xB (b : Fin 3) (c : Dev nD) : Memref sig .tc .hbm S2048x1024 .f32 := xM.slice (bRect b c) (fun _ => rfl)
abbrev locB (b : Fin 3) (c : Dev nD) : Memref sig .tc .vmem S2048x1024 .f32 := locM.slice (bRect b c) (fun _ => rfl)
abbrev sqC (i : Fin 12) : Memref sig .tc .vmem S256x1024 .bf16 := sqM.slice (sqRect i) (fun _ => rfl)
abbrev osC (s : Fin 2) : Memref sig .tc .vmem S256x1024 .bf16 :=
  (osM.slice (osRect s) (fun _ => rfl)).squeeze S256x1024 squeezes_S1x256x1024_S256x1024

/-! ## Semaphores -/

/-- Semaphore `i` of an array of `n`. -/
def dsem {n : ℕ} (A : DmaSems sig ⟨1, ![n]⟩) (i : Fin n) : DmaSem sig :=
  ((A.slice (Rect.unit (s := ⟨1, ![n]⟩) ![i.val] S1.size (by intro a; fin_cases a; exact i.isLt))).squeeze S_ squeezes_S1_S_).sem

/-- The semaphore all three handshakes of a device arrive on. -/
abbrev bar : Sem sig := (SemArray.scalar (sig.barrier 0 rfl) : Sems sig S_).sem

/-! ## Neighbours, as each transfer computes them -/

/-- The neighbour in direction `x`, `y`, `z` (`0`, `1`, `2`), as the three handshakes compute it. -/
def nbD (a : Fin 3) (c : Dev nD) : Dev nD :=
  match a with
  | 0 => ⟨k0_dev1 c, k0_dev1_lt c⟩
  | 1 => ⟨k0_dev2 c, k0_dev2_lt c⟩
  | 2 => ⟨k0_dev3 c, k0_dev3_lt c⟩

/-- Where the injection of chunk `k` goes. -/
def injD (k : Fin 8) (c : Dev nD) : Dev nD :=
  match k with
  | 0 => ⟨k0_dev4 c, k0_dev4_lt c⟩
  | 1 => ⟨k0_dev5 c, k0_dev5_lt c⟩
  | 2 => ⟨k0_dev6 c, k0_dev6_lt c⟩
  | 3 => ⟨k0_dev7 c, k0_dev7_lt c⟩
  | 4 => ⟨k0_dev8 c, k0_dev8_lt c⟩
  | 5 => ⟨k0_dev9 c, k0_dev9_lt c⟩
  | 6 => ⟨k0_dev10 c, k0_dev10_lt c⟩
  | 7 => ⟨k0_dev11 c, k0_dev11_lt c⟩

/-- Where chunk `k` of the own quarter is forwarded along `y`. -/
def fwyD (k : Fin 8) (c : Dev nD) : Dev nD :=
  match k with
  | 0 => ⟨k0_dev12 c, k0_dev12_lt c⟩
  | 1 => ⟨k0_dev14 c, k0_dev14_lt c⟩
  | 2 => ⟨k0_dev16 c, k0_dev16_lt c⟩
  | 3 => ⟨k0_dev18 c, k0_dev18_lt c⟩
  | 4 => ⟨k0_dev20 c, k0_dev20_lt c⟩
  | 5 => ⟨k0_dev25 c, k0_dev25_lt c⟩
  | 6 => ⟨k0_dev27 c, k0_dev27_lt c⟩
  | 7 => ⟨k0_dev28 c, k0_dev28_lt c⟩

/-- Where chunk `k` of the own quarter is forwarded along `z`. -/
def fwzD (k : Fin 5) (c : Dev nD) : Dev nD :=
  match k with
  | 0 => ⟨k0_dev13 c, k0_dev13_lt c⟩
  | 1 => ⟨k0_dev15 c, k0_dev15_lt c⟩
  | 2 => ⟨k0_dev17 c, k0_dev17_lt c⟩
  | 3 => ⟨k0_dev19 c, k0_dev19_lt c⟩
  | 4 => ⟨k0_dev21 c, k0_dev21_lt c⟩

/-- Where the `i`-th chunk sent straight across `x` goes. -/
def xeD (i : Fin 4) (c : Dev nD) : Dev nD :=
  match i with
  | 0 => ⟨k0_dev22 c, k0_dev22_lt c⟩
  | 1 => ⟨k0_dev23 c, k0_dev23_lt c⟩
  | 2 => ⟨k0_dev24 c, k0_dev24_lt c⟩
  | 3 => ⟨k0_dev26 c, k0_dev26_lt c⟩

/-- Where the `i`-th chunk of the `y` quarter is forwarded along `z`. -/
def zbD (i : Fin 5) (c : Dev nD) : Dev nD :=
  match i with
  | 0 => ⟨k0_dev29 c, k0_dev29_lt c⟩
  | 1 => ⟨k0_dev30 c, k0_dev30_lt c⟩
  | 2 => ⟨k0_dev31 c, k0_dev31_lt c⟩
  | 3 => ⟨k0_dev32 c, k0_dev32_lt c⟩
  | 4 => ⟨k0_dev33 c, k0_dev33_lt c⟩

/-- Where the `i`-th chunk of the `z` quarter is forwarded along `y`. -/
def ybD (i : Fin 2) (c : Dev nD) : Dev nD :=
  match i with
  | 0 => ⟨k0_dev34 c, k0_dev34_lt c⟩
  | 1 => ⟨k0_dev35 c, k0_dev35_lt c⟩

/-! ## Which chunks take which road -/

/-- The chunk of the `i`-th straight crossing, and the quarter it belongs to. -/
def xeQ (i : Fin 4) : Quart := match i with | 0 | 1 | 2 => .za | 3 => .zb
def xeK (i : Fin 4) : Fin 8 := match i with | 0 => 5 | 1 => 6 | 2 => 7 | 3 => 7
/-- Its place in the send buffer, after the eight injected chunks. -/
def xeS (i : Fin 4) : Fin 12 := ⟨8 + i.val, by omega⟩
def injS (k : Fin 8) : Fin 12 := ⟨k.val, by omega⟩
/-- Chunk `i` of the five forwarded along `z` out of the own quarter, -/
def k5 (i : Fin 5) : Fin 8 := ⟨i.val, by omega⟩
/-- of the five out of the `y` quarter, -/
def k5b (i : Fin 5) : Fin 8 := ⟨i.val + 2, by omega⟩
/-- and of the two forwarded along `y` out of the `z` quarter. -/
def k2 (i : Fin 2) : Fin 8 := ⟨i.val, by omega⟩

/-- The `n`-th chunk of the result to be written: own quarter, then `y`, `za`, `zb`. -/
def emQ (n : Fin 32) : Quart := match n.val / 8 with | 0 => .own | 1 => .y | 2 => .za | _ => .zb
def emK (n : Fin 32) : Fin 8 := ⟨n.val % 8, Nat.mod_lt _ (by decide)⟩
def emS (n : Fin 32) : Fin 2 := ⟨n.val % 2, Nat.mod_lt _ (by decide)⟩

/-! ## The values stored -/

/-- A chunk rounded for sending. -/
def sendV (v : Vec F S256x1024 .f32) : FVec F S256x1024 .bf16 :=
  shapeCast S256x1024 (truncf .bf16 v bitsLt_bf16_f32) shapeCasts_S256x1024_S256x1024

/-- A chunk of the result: what is here rounded, and what came from across added. -/
def sumV (v : Vec F S256x1024 .f32) (w : Vec F S256x1024 .bf16) : FVec F S1x256x1024 .bf16 :=
  shapeCast S1x256x1024 (addf (truncf .bf16 v bitsLt_bf16_f32) w) shapeCasts_S256x1024_S1x256x1024

/-! ## The steps -/

section Steps

variable (c : Dev nD)

theorem remW (q : Quart) (k : Fin 8) : (remC q c k).view.WordExact :=
  (Memref.isWhole_whole cc0_scratch1).wordExact_slice rfl _ (mOff_words q c k)
theorem outW (q : Quart) (k : Fin 8) : (outC q c k).view.WordExact :=
  (Memref.isWhole_whole main_v1).wordExact_slice rfl _ (mOff_words q c k)
theorem sqW (i : Fin 12) : (sqC i).view.WordExact :=
  (Memref.isWhole_whole cc0_scratch2).wordExact_slice rfl _ (sq_words i)
theorem osW (s : Fin 2) : (osC s).view.WordExact :=
  ((Memref.isWhole_whole cc0_scratch3).wordExact_slice rfl _ (os_words s)).reshape _ _

/-- Fetch a chunk of the own quarter. -/
def fetchP (k : Fin 8) : PG F :=
  Prog.lift (.enqueueDma (xC .own c k) (.here (locC .own c k)) (.dma (dsem cc0_scratch4 k)) (View.wordExact_bits rfl) (View.wordExact_bits rfl) ⟨Or.inl rfl, trivial⟩)

/-- Fetch another quarter. -/
def bulkP (b : Fin 3) : PG F :=
  Prog.lift (.enqueueDma (xB b c) (.here (locB b c)) (.dma (dsem cc0_scratch5 b)) (View.wordExact_bits rfl) (View.wordExact_bits rfl) ⟨Or.inl rfl, trivial⟩)

def fetchWait (k : Fin 8) : PG F :=
  Prog.lift (.waitDma2 (dsem cc0_scratch4 k) (xC .own c k) (locC .own c k) (View.wordExact_bits rfl) (View.wordExact_bits rfl))

def bulkWait (b : Fin 3) : PG F :=
  Prog.lift (.waitDma2 (dsem cc0_scratch5 b) (xB b c) (locB b c) (View.wordExact_bits rfl) (View.wordExact_bits rfl))

/-- Round a chunk of the input into place `i` of the send buffer. -/
def packP (q : Quart) (k : Fin 8) (i : Fin 12) : PG F :=
  Prog.lift (.load locM (lRect q c k).toLoadRect (View.loadsAt_vmem h_S256x1024)) >>= fun v : Vec F S256x1024 .f32 =>
  Prog.lift (.load sqM (sqRect i).toLoadRect (View.loadsAt_vmem h_S256x1024)) >>= fun _ : Vec F S256x1024 .bf16 =>
  Prog.lift (.store sqM (sqRect i) (sendV v) Finset.univ (View.stores_vmem h_S256x1024 ((Memref.isWhole_whole cc0_scratch2).storeExact_slice rfl _ (sq_packed i)) (fun _ => rfl)) (.inl rfl))

/-- Send place `i` of the send buffer to `d`, into its chunk `k` of quarter `q`. -/
def postP (d : Dev nD) (i : Fin 12) (q : Quart) (k : Fin 8) (sS sR : DmaSem sig) : PG F :=
  Prog.lift (.enqueueDma (sqC i) (.remote (Dev.tc d) (remC q c k) (.dma sS)) (.dma sR) (sqW i) (remW c q k) ⟨⟨rfl, Or.inl rfl⟩, trivial⟩)

/-- Forward chunk `k` of quarter `q` to the same rows of `d`. -/
def passP (d : Dev nD) (q : Quart) (k : Fin 8) (sS sR : DmaSem sig) : PG F :=
  Prog.lift (.enqueueDma (remC q c k) (.remote (Dev.tc d) (remC q c k) (.dma sS)) (.dma sR) (remW c q k) (remW c q k) ⟨⟨rfl, Or.inl rfl⟩, trivial⟩)

/-- Wait for a chunk sent out of the send buffer. -/
def postWait (s : DmaSem sig) (i : Fin 12) (q : Quart) (k : Fin 8) : PG F :=
  Prog.lift (.waitDma2 s (sqC i) (remC q c k) (sqW i) (remW c q k))

/-- Wait for a chunk forwarded. -/
def passWait (s : DmaSem sig) (q : Quart) (k : Fin 8) : PG F :=
  Prog.lift (.waitDma2 s (remC q c k) (remC q c k) (remW c q k) (remW c q k))

/-- Wait until a chunk has left the send buffer. -/
def leftWait (s : DmaSem sig) (q : Quart) (k : Fin 8) (i : Fin 12) : PG F :=
  Prog.lift (.waitDma2 s (remC q c k) (sqC i) (remW c q k) (sqW i))

/-- Wait until chunk `n` of the result is written. -/
def outWait (n : Fin 32) : PG F :=
  Prog.lift (.waitDma2 (dsem cc0_scratch15 (emS n)) (osC (emS n)) (outC (emQ n) c (emK n)) (osW (emS n)) (outW c (emQ n) (emK n)))

/-- Write chunk `n` of the result. -/
def writeP (n : Fin 32) : PG F :=
  Prog.lift (.load locM (lRect (emQ n) c (emK n)).toLoadRect (View.loadsAt_vmem h_S256x1024)) >>= fun v : Vec F S256x1024 .f32 =>
  Prog.lift (.load remM (lRect (emQ n) c (emK n)).toLoadRect (View.loadsAt_vmem h_S256x1024)) >>= fun w : Vec F S256x1024 .bf16 =>
  Prog.lift (.load osM (osRect (emS n)).toLoadRect (View.loadsAt_vmem h_S1x256x1024)) >>= fun _ : Vec F S1x256x1024 .bf16 =>
  Prog.lift (.store osM (osRect (emS n)) (sumV v w) Finset.univ (View.stores_vmem h_S1x256x1024 ((Memref.isWhole_whole cc0_scratch3).storeExact_slice rfl _ (os_packed (emS n))) (fun _ => rfl)) (.inl rfl)) >>= fun _ =>
  Prog.lift (.enqueueDma (osC (emS n)) (.here (outC (emQ n) c (emK n))) (.dma (dsem cc0_scratch15 (emS n))) (osW (emS n)) (outW c (emQ n) (emK n)) ⟨Or.inl rfl, trivial⟩)

/-- The same, once the slot it is staged in is free again: chunk `n - 2` of the result is written. -/
def emitP : Fin 32 → PG F
  | ⟨0, h⟩ => writeP c ⟨0, h⟩
  | ⟨1, h⟩ => writeP c ⟨1, h⟩
  | ⟨n + 2, h⟩ => outWait c ⟨n, by omega⟩ >>= fun _ => writeP c ⟨n + 2, h⟩

/-- Send chunk `k` of the own quarter across `x`. -/
def injectP (k : Fin 8) : PG F :=
  fetchWait c k >>= fun _ => packP c .own k (injS k) >>= fun _ =>
  postP c (injD k c) (injS k) .own k (dsem cc0_scratch4 k) (dsem cc0_scratch9 k)

/-- Send the `i`-th of the chunks that cross `x` straight from another quarter. -/
def xeP (i : Fin 4) : PG F :=
  packP c (xeQ i) (xeK i) (xeS i) >>= fun _ =>
  postP c (xeD i c) (xeS i) (xeQ i) (xeK i) (dsem cc0_scratch7 i) (dsem cc0_scratch13 i)

def fwyP (k : Fin 8) : PG F := passP c (fwyD k c) .own k (dsem cc0_scratch6 0) (dsem cc0_scratch10 k)
def fwzP (i : Fin 5) : PG F := passP c (fwzD i c) .own (k5 i) (dsem cc0_scratch6 1) (dsem cc0_scratch11 i)
def zbP (i : Fin 5) : PG F := passP c (zbD i c) .y (k5b i) (dsem cc0_scratch6 2) (dsem cc0_scratch12 i)
def ybP (i : Fin 2) : PG F := passP c (ybD i c) .za (k2 i) (dsem cc0_scratch8 i) (dsem cc0_scratch14 i)

/-- Chunk `i` of the own quarter has come from across `x`: forward it both ways, write the result. -/
def hopA (i : Fin 5) : PG F :=
  postWait c (dsem cc0_scratch9 (k5 i)) (injS (k5 i)) .own (k5 i) >>= fun _ => fwyP c (k5 i) >>= fun _ =>
  fwzP c i >>= fun _ => emitP c ⟨i.val, by omega⟩

/-- The same for the last three chunks, which go along `y` only. -/
def hopB (j : Fin 3) : PG F :=
  postWait c (dsem cc0_scratch9 ⟨j.val + 5, by omega⟩) (injS ⟨j.val + 5, by omega⟩) .own ⟨j.val + 5, by omega⟩ >>= fun _ =>
  fwyP c ⟨j.val + 5, by omega⟩ >>= fun _ => emitP c ⟨j.val + 5, by omega⟩

/-- Chunk `k` of the `y` quarter has come: write the result. -/
def yEnd (k : Fin 8) : PG F :=
  passWait c (dsem cc0_scratch10 k) .y k >>= fun _ => emitP c ⟨k.val + 8, by omega⟩

/-- The same, forwarding the chunk along `z` before. -/
def yHop (i : Fin 5) : PG F :=
  passWait c (dsem cc0_scratch10 (k5b i)) .y (k5b i) >>= fun _ => zbP c i >>= fun _ => emitP c ⟨i.val + 10, by omega⟩

/-- Chunk `i` of the `z` quarter has come: forward it along `y`, write the result. -/
def zaHop (i : Fin 2) : PG F :=
  passWait c (dsem cc0_scratch11 ⟨i.val, by omega⟩) .own (k2 i) >>= fun _ => ybP c i >>= fun _ => emitP c ⟨i.val + 16, by omega⟩

def zaEnd (j : Fin 3) : PG F :=
  passWait c (dsem cc0_scratch11 ⟨j.val + 2, by omega⟩) .own ⟨j.val + 2, by omega⟩ >>= fun _ => emitP c ⟨j.val + 18, by omega⟩

/-- The `i`-th chunk that crossed `x` straight has come: write the result. -/
def xeEnd (i : Fin 4) (n : Fin 32) : PG F :=
  postWait c (dsem cc0_scratch13 i) (xeS i) (xeQ i) (xeK i) >>= fun _ => emitP c n

def ybEnd (i : Fin 2) : PG F :=
  passWait c (dsem cc0_scratch14 i) .zb (k2 i) >>= fun _ => emitP c ⟨i.val + 24, by omega⟩

def zbEnd (i : Fin 5) : PG F :=
  passWait c (dsem cc0_scratch12 i) .y (k5b i) >>= fun _ => emitP c ⟨i.val + 26, by omega⟩

/-- Wait until chunk `k` of the own quarter has left, across `x` and along `y`. -/
def leftP (k : Fin 8) : PG F :=
  leftWait c (dsem cc0_scratch4 k) .own k (injS k) >>= fun _ => passWait c (dsem cc0_scratch6 0) .own k

/-- Tell the neighbour in direction `a` that its chunks may come. -/
def readyP (a : Fin 3) : PG F := semSignalWord (nbD a c) bar 1#32

/-- What the device waits for last. -/
def drainP : PG F :=
  outWait c 30 >>= fun _ => outWait c 31 >>= fun _ =>
  forP (leftP c) [0, 1, 2, 3, 4, 5, 6, 7] >>= fun _ =>
  forP (fun i : Fin 5 => passWait c (dsem cc0_scratch6 1) .own (k5 i)) [0, 1, 2, 3, 4] >>= fun _ =>
  forP (fun i : Fin 5 => passWait c (dsem cc0_scratch6 2) .y (k5b i)) [0, 1, 2, 3, 4] >>= fun _ =>
  forP (fun i : Fin 4 => leftWait c (dsem cc0_scratch7 i) (xeQ i) (xeK i) (xeS i)) [0, 1, 2, 3] >>= fun _ =>
  forP (fun i : Fin 2 => passWait c (dsem cc0_scratch8 i) .za (k2 i)) [0, 1]

/-- Everything up to the handshake. -/
def openP : PG F :=
  forP (fetchP c) [0, 1, 2, 3, 4, 5, 6, 7] >>= fun _ => forP (bulkP c) [0, 1, 2] >>= fun _ =>
  forP (readyP c) [0, 1, 2] >>= fun _ => semWaitWord bar 3#32

/-- The own quarter: injected, received back from across, forwarded, written. -/
def ownP : PG F :=
  forP (injectP c) [0, 1, 2, 3, 4, 5, 6, 7] >>= fun _ =>
  forP (hopA c) [0, 1, 2, 3, 4] >>= fun _ =>
  bulkWait c 0 >>= fun _ => forP (xeP c) [0, 1, 2] >>= fun _ =>
  hopB c 0 >>= fun _ =>
  bulkWait c 1 >>= fun _ => forP (xeP c) [3] >>= fun _ =>
  forP (hopB c) [1, 2]

/-- The other three quarters as they come, written. -/
def restP : PG F :=
  bulkWait c 2 >>= fun _ =>
  forP (yEnd c) [0, 1] >>= fun _ => forP (yHop c) [0, 1, 2, 3, 4] >>= fun _ => yEnd c 7 >>= fun _ =>
  forP (zaHop c) [0, 1] >>= fun _ => forP (zaEnd c) [0, 1, 2] >>= fun _ =>
  forP (fun i : Fin 3 => xeEnd c ⟨i.val, by omega⟩ ⟨i.val + 21, by omega⟩) [0, 1, 2] >>= fun _ =>
  forP (ybEnd c) [0, 1] >>= fun _ => forP (zbEnd c) [0, 1, 2, 3, 4] >>= fun _ =>
  xeEnd c 3 31

/-- The whole body on device `c`. -/
def mainP : PG F :=
  openP c >>= fun _ => ownP c >>= fun _ => restP c >>= fun _ => drainP c

end Steps

/-- The body: read the device's place, then the run. -/
def bodyP : PG F :=
  (Prog.lift .deviceId : Prog (TpuEff nD τ sig (Elt F) Λ₀ .tc) (Dev nD)) >>= fun c => mainP c

end Cert.KernelIdeal.Hop

end
-- ==== Proof.Places.lean ====
/-
# Places: neighbours, chunks, and what each chunk is to hold

The neighbours of a device, the chunk of rows each step works on (numbered `0 … 31` down the
buffer), and the contents the transfers deliver. Every fact about the printed address computations
is decided over the eight devices and the chunks of a quarter.
-/
module

public import proofs.«01_k».proof.Proof.Steps
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Hop

open Cert.KernelIdeal Cert.KernelIdeal.Gen
open Idealize.ShloMosaic Idealize.ShloMosaic.TcCoe
open Idealize.SL Idealize.SL.Sem

variable {F : FTy → Type} [FloatOps F]

/-! ## Neighbours -/

/-- The neighbour across `x`, `y`, `z`. -/
def px (c : Dev nD) : Dev nD := (![4, 5, 6, 7, 0, 1, 2, 3] : Fin 8 → Fin 8) c
def py (c : Dev nD) : Dev nD := (![2, 3, 0, 1, 6, 7, 4, 5] : Fin 8 → Fin 8) c
def pz (c : Dev nD) : Dev nD := (![1, 0, 3, 2, 5, 4, 7, 6] : Fin 8 → Fin 8) c

theorem px_px : ∀ c, px (px c) = c := by decide
theorem py_py : ∀ c, py (py c) = c := by decide
theorem pz_pz : ∀ c, pz (pz c) = c := by decide

/-- The neighbour in direction `a`. -/
def nb (a : Fin 3) (c : Dev nD) : Dev nD := match a with | 0 => px c | 1 => py c | 2 => pz c

theorem nb_nb : ∀ a c, nb a (nb a c) = c := by decide

theorem nbD_eq : ∀ a c, nbD a c = nb a c := by decide +kernel
theorem injD_eq : ∀ k c, injD k c = px c := by decide +kernel
theorem fwyD_eq : ∀ k c, fwyD k c = py c := by decide +kernel
theorem fwzD_eq : ∀ k c, fwzD k c = pz c := by decide +kernel
theorem xeD_eq : ∀ i c, xeD i c = px c := by decide +kernel
theorem zbD_eq : ∀ i c, zbD i c = pz c := by decide +kernel
theorem ybD_eq : ∀ i c, ybD i c = py c := by decide +kernel

/-! ## Chunks -/

/-- The quarter of the rows a device calls `q`. -/
def quart (q : Quart) (c : Dev nD) : Fin 4 :=
  match q with
  | .own => ⟨c.val % 4, Nat.mod_lt _ (by decide)⟩
  | .y => ⟨(py c).val % 4, Nat.mod_lt _ (by decide)⟩
  | .za => ⟨(pz c).val % 4, Nat.mod_lt _ (by decide)⟩
  | .zb => ⟨(py (pz c)).val % 4, Nat.mod_lt _ (by decide)⟩

/-- Chunk `k` of quarter `q`, counted down the whole buffer. -/
def ch (q : Quart) (c : Dev nD) (k : Fin 8) : Fin 32 := ⟨8 * (quart q c).val + k.val, by omega⟩

theorem mOff_eq (q : Quart) : ∀ c k, mOff q c k = ![256 * (ch q c k).val, 0] := by
  cases q <;> decide +kernel
theorem lOff_eq (q : Quart) : ∀ c k, lOff q c k = ![256 * (ch q c k).val, 0] := by
  cases q <;> decide +kernel

/-- The quarter fetched whole in place `b`. -/
def bQ (b : Fin 3) : Quart := match b with | 0 => .za | 1 => .zb | 2 => .y

theorem bOff_eq : ∀ b c, bOff b c = ![2048 * (quart (bQ b) c).val, 0] := by decide +kernel

theorem cset_inb (j : Fin 32) : ∀ a, (![256 * j.val, 0] : Fin 2 → ℕ) a + S256x1024.size a ≤ S8192x1024.size a := by
  revert j; decide +kernel
theorem bset_inb (j : Fin 4) : ∀ a, (![2048 * j.val, 0] : Fin 2 → ℕ) a + S2048x1024.size a ≤ S8192x1024.size a := by
  revert j; decide +kernel

/-- The rows of chunk `j`, and of quarter `j`. -/
abbrev cRect (j : Fin 32) : Rect S8192x1024 := Rect.unit (s := S8192x1024) ![256 * j.val, 0] S256x1024.size (cset_inb j)
def cset (j : Fin 32) : Finset S8192x1024.Idx := (cRect j).set
def bset (j : Fin 4) : Finset S8192x1024.Idx :=
  (Rect.unit (s := S8192x1024) ![2048 * j.val, 0] S2048x1024.size (bset_inb j)).set

/-- The chunk a position lies in. -/
def row (i : S8192x1024.Idx) : Fin 32 := ⟨(i 0).val / 256, by have h : (i 0).val < 8192 := (i 0).isLt; omega⟩

theorem mem_cset {j : Fin 32} {i : S8192x1024.Idx} : i ∈ cset j ↔ row i = j := by
  unfold cset row
  rw [Rect.mem_set_unit, Fin.ext_iff]
  constructor
  · intro h; have h0 := h 0; simp [S256x1024] at h0 ⊢; omega
  · intro h a
    fin_cases a
    · simp [S256x1024] at h ⊢; omega
    · have h1 : (i 1).val < 1024 := (i 1).isLt
      simp [S256x1024]; omega

theorem mem_bset {j : Fin 4} {i : S8192x1024.Idx} : i ∈ bset j ↔ (row i).val / 8 = j.val := by
  unfold bset row
  rw [Rect.mem_set_unit]
  constructor
  · intro h; have h0 := h 0; simp [S2048x1024] at h0 ⊢; omega
  · intro h a
    fin_cases a
    · simp [S2048x1024] at h ⊢; omega
    · have h1 : (i 1).val < 1024 := (i 1).isLt
      simp [S2048x1024]; omega

theorem cset_disjoint {j j' : Fin 32} (h : j ≠ j') : Disjoint (cset j) (cset j') :=
  Finset.disjoint_left.2 fun i hi hi' => h ((mem_cset.1 hi).symm.trans (mem_cset.1 hi'))

theorem unit_set_eq {off : Fin 2 → ℕ} {inb} {j : Fin 32} (h : off = ![256 * j.val, 0]) :
    (Rect.unit (s := S8192x1024) off S256x1024.size inb).set = cset j := by subst h; rfl
theorem unit_bset_eq {off : Fin 2 → ℕ} {inb} {j : Fin 4} (h : off = ![2048 * j.val, 0]) :
    (Rect.unit (s := S8192x1024) off S2048x1024.size inb).set = bset j := by subst h; rfl

theorem mRect_set (q : Quart) (c : Dev nD) (k : Fin 8) : (mRect q c k).set = cset (ch q c k) := unit_set_eq (mOff_eq q c k)
theorem lRect_set (q : Quart) (c : Dev nD) (k : Fin 8) : (lRect q c k).set = cset (ch q c k) := unit_set_eq (lOff_eq q c k)
theorem bRect_set (b : Fin 3) (c : Dev nD) : (bRect b c).set = bset (quart (bQ b) c) := unit_bset_eq (bOff_eq b c)

theorem lRect_eq (q : Quart) (c : Dev nD) (k : Fin 8) : lRect q c k = mRect q c k := by
  unfold lRect mRect; congr 1

theorem xC_set (q : Quart) (c : Dev nD) (k : Fin 8) : (xC q c k).view.set = cset (ch q c k) :=
  (View.set_slice_whole _ _).trans (mRect_set q c k)
theorem locC_set (q : Quart) (c : Dev nD) (k : Fin 8) : (locC q c k).view.set = cset (ch q c k) :=
  (View.set_slice_whole _ _).trans (mRect_set q c k)
theorem remC_set (q : Quart) (c : Dev nD) (k : Fin 8) : (remC q c k).view.set = cset (ch q c k) :=
  (View.set_slice_whole _ _).trans (mRect_set q c k)
theorem outC_set (q : Quart) (c : Dev nD) (k : Fin 8) : (outC q c k).view.set = cset (ch q c k) :=
  (View.set_slice_whole _ _).trans (mRect_set q c k)
theorem xB_set (b : Fin 3) (c : Dev nD) : (xB b c).view.set = bset (quart (bQ b) c) :=
  (View.set_slice_whole _ _).trans (bRect_set b c)
theorem locB_set (b : Fin 3) (c : Dev nD) : (locB b c).view.set = bset (quart (bQ b) c) :=
  (View.set_slice_whole _ _).trans (bRect_set b c)

/-- The places of the send buffer and of the staging buffer. -/
def sqset (i : Fin 12) : Finset S3072x1024.Idx := (sqRect i).set
def osset (s : Fin 2) : Finset S2x256x1024.Idx := (osRect s).set

theorem sqC_set (i : Fin 12) : (sqC i).view.set = sqset i := View.set_slice_whole _ _
theorem osC_set (s : Fin 2) : (osC s).view.set = osset s := (View.set_reshape _ _).trans (View.set_slice_whole _ _)

/-- The row chunk of a point of a chunk. -/
theorem row_emb (q : Quart) (c : Dev nD) (k : Fin 8) (t : S256x1024.Idx) : row ((mRect q c k).emb t) = ch q c k := by
  rw [← mem_cset, ← mRect_set, ← Rect.map_emb_univ]
  exact Finset.mem_map_of_mem _ (Finset.mem_univ _)

/-- Two chunks of the same rows embed alike. -/
theorem mRect_eq {q q' : Quart} {c c' : Dev nD} {k k' : Fin 8} (h : ch q c k = ch q' c' k') :
    mRect q c k = mRect q' c' k' := by
  unfold mRect; congr 1; rw [mOff_eq, mOff_eq, h]

/-! ## How the neighbours' chunks lie to each other -/

theorem ch_own_px : ∀ c k, ch .own (px c) k = ch .own c k := by decide
theorem ch_y_px : ∀ c k, ch .y (px c) k = ch .y c k := by decide
theorem ch_za_px : ∀ c k, ch .za (px c) k = ch .za c k := by decide
theorem ch_zb_px : ∀ c k, ch .zb (px c) k = ch .zb c k := by decide
theorem ch_y_py : ∀ c k, ch .y (py c) k = ch .own c k := by decide
theorem ch_za_pz : ∀ c k, ch .za (pz c) k = ch .own c k := by decide
theorem ch_zb_py : ∀ c k, ch .zb (py c) k = ch .za c k := by decide
theorem ch_zb_pz : ∀ c k, ch .zb (pz c) k = ch .y c k := by decide

/-! ## What the buffers are to hold -/

/-- Where the chunk `j` that device `n` receives comes from: straight from across `x`, or from the
    device across `x` whose own quarter it lies in. -/
def src (n : Dev nD) (j : Fin 32) : Dev nD :=
  if (j.val / 8 = (quart .za n).val ∧ 5 ≤ j.val % 8) ∨ (j.val / 8 = (quart .zb n).val ∧ j.val % 8 = 7) then px n
  else ⟨4 * (1 - n.val / 4) + j.val / 8, by show _ < 8; omega⟩

theorem src_inj : ∀ c k, src (px c) (ch .own c k) = c := by decide +kernel
theorem src_xe : ∀ c i, src (px c) (ch (xeQ i) c (xeK i)) = c := by decide +kernel
theorem src_fwy : ∀ c k, src (py c) (ch .own c k) = src c (ch .own c k) := by decide +kernel
theorem src_fwz : ∀ c i, src (pz c) (ch .own c (k5 i)) = src c (ch .own c (k5 i)) := by decide +kernel
theorem src_zb : ∀ c i, src (pz c) (ch .y c (k5b i)) = src c (ch .y c (k5b i)) := by decide +kernel
theorem src_yb : ∀ c i, src (py c) (ch .za c (k2 i)) = src c (ch .za c (k2 i)) := by decide +kernel
theorem src_across : ∀ n j, (src n j).val / 4 = 1 - n.val / 4 := by decide +kernel

section Contents
variable (X : Dev nD → S8192x1024.Idx → Elt F .f32)

/-- What device `n` receives: the block of a device across `x`, rounded. -/
def remV (n : Dev nD) : S8192x1024.Idx → Elt F .bf16 :=
  fun i => FloatOps.truncf (F := F) (φ := .f32) .bf16 bitsLt_bf16_f32 (X (src n (row i)) i)

/-- The result on device `n`. -/
def outV (n : Dev nD) : S8192x1024.Idx → Elt F .bf16 :=
  fun i => FloatOps.addf (F := F) (φ := .bf16) (FloatOps.truncf (F := F) (φ := .f32) .bf16 bitsLt_bf16_f32 (X n i)) (remV X n i)

/-- What place `i` of the send buffer holds while chunk `k` of quarter `q` is sent out of it. -/
def sqHolds (c : Dev nD) (q : Quart) (k : Fin 8) : S256x1024.Idx → Elt F .bf16 :=
  fun t => FloatOps.truncf (F := F) (φ := .f32) .bf16 bitsLt_bf16_f32 (X c ((mRect q c k).emb t))

/-- What a slot of the staging buffer holds while chunk `k` of quarter `q` of the result is written. -/
def osHolds (c : Dev nD) (q : Quart) (k : Fin 8) : S256x1024.Idx → Elt F .bf16 :=
  fun t => outV X c ((mRect q c k).emb t)

theorem sendV_read (c : Dev nD) (q : Quart) (k : Fin 8) {v : Vec F S256x1024 .f32}
    (hv : ∀ t, v t = X c ((mRect q c k).emb t)) : sendV v = sqHolds X c q k := by
  unfold sendV; rw [shapeCast_self]
  funext t
  exact congrArg _ (hv t)

theorem sumV_read (c : Dev nD) (q : Quart) (k : Fin 8) {v : Vec F S256x1024 .f32} {w : Vec F S256x1024 .bf16}
    (hv : ∀ t, v t = X c ((mRect q c k).emb t)) (hw : ∀ t, w t = remV X c ((mRect q c k).emb t)) (t : S256x1024.Idx)
    {h : S256x1024.numel = S1x256x1024.numel} :
    sumV v w (Shape.reshapeEquiv h t) = osHolds X c q k t := by
  show addf (truncf .bf16 v bitsLt_bf16_f32) w (Shape.reshapeEquiv _ (Shape.reshapeEquiv h t)) = _
  rw [Shape.reshapeEquiv_reshapeEquiv, Shape.reshapeEquiv_self]
  show FloatOps.addf _ _ = _
  rw [hw t]
  show FloatOps.addf (FloatOps.truncf (F := F) (φ := .f32) .bf16 bitsLt_bf16_f32 (v t)) _ = _
  rw [hv t]
  rfl

end Contents

end Cert.KernelIdeal.Hop

end
-- ==== Proof.Cells.lean ====
/-
# The protocol: which semaphore waits for what, and what each arrival hands over

Every device has the same cells. On each, the rounds of arrivals it waits for, their amounts, and
the memory an arrival hands to the one waiting:

* `fetch k`: the fetch of chunk `k` of the own quarter (round 0), then the departure of the same
  chunk across `x` (round 1);
* `bulk b`: the fetch of another quarter;
* `fwd a`: the departures of the forwarded chunks on road `a` (own quarter along `y`, own quarter
  along `z`, `y` quarter along `z`), one round of several arrivals;
* `xes`, `ybs`: the departures of the chunks that cross `x` straight, and of those of the `z`
  quarter forwarded along `y`;
* `xr`, `yr`, `zar`, `zbr`, `xer`, `ybr`: the arrivals of the chunks of the four quarters;
* `out s`: the writes of the result staged in slot `s`, a round each;
* `ready`: the three neighbours' handshakes, each handing over the rows of ITS receive buffer that
  this device will write into.
-/
module

public import proofs.«01_k».proof.Proof.Places
public import Idealize.ShloMosaic.Lib.Pipeline.BigSepL

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev D : Type := Fin 8
abbrev UB : Type := URounds (GSem nD τ sig) D
abbrev UU : Type := UR sig nD τ × UB
local notation "𝕄" => MT nD τ sig Unit (Elt F) ℕ UU ℕ
abbrev EP : Emb (UR sig nD τ) 𝕄 := embL
abbrev ER : Emb UB 𝕄 := embR
abbrev 𝒱₀ : Variants := Variants.none

/-! ## The cells of a device -/

inductive Ch
  | fetch (k : Fin 8) | bulk (b : Fin 3) | fwd (a : Fin 3) | xes (i : Fin 4) | ybs (i : Fin 2)
  | xr (k : Fin 8) | yr (k : Fin 8) | zar (i : Fin 5) | zbr (i : Fin 5) | xer (i : Fin 4) | ybr (i : Fin 2)
  | out (s : Fin 2) | ready
  deriving DecidableEq

/-- The semaphore of a cell. -/
def Ch.sem : Ch → SemLoc sig
  | .fetch k => .dma (dsem cc0_scratch4 k)
  | .bulk b => .dma (dsem cc0_scratch5 b)
  | .fwd a => .dma (dsem cc0_scratch6 a)
  | .xes i => .dma (dsem cc0_scratch7 i)
  | .ybs i => .dma (dsem cc0_scratch8 i)
  | .xr k => .dma (dsem cc0_scratch9 k)
  | .yr k => .dma (dsem cc0_scratch10 k)
  | .zar i => .dma (dsem cc0_scratch11 i)
  | .zbr i => .dma (dsem cc0_scratch12 i)
  | .xer i => .dma (dsem cc0_scratch13 i)
  | .ybr i => .dma (dsem cc0_scratch14 i)
  | .out s => .dma (dsem cc0_scratch15 s)
  | .ready => .reg bar

/-- All cells. -/
def chs : List Ch :=
  (List.finRange 8).map .fetch ++ (List.finRange 3).map .bulk ++ (List.finRange 3).map .fwd ++ (List.finRange 4).map .xes
    ++ (List.finRange 2).map .ybs ++ (List.finRange 8).map .xr ++ (List.finRange 8).map .yr ++ (List.finRange 5).map .zar
    ++ (List.finRange 5).map .zbr ++ (List.finRange 4).map .xer ++ (List.finRange 2).map .ybr ++ (List.finRange 2).map .out ++ [.ready]

/-- The cell a semaphore is. -/
def dec : SemLoc sig → Ch
  | .reg _ => .ready
  | .dma n =>
    if h : n.val < 8 then .fetch ⟨n.val, h⟩
    else if h : n.val < 11 then .bulk ⟨n.val - 8, by omega⟩
    else if h : n.val < 14 then .fwd ⟨n.val - 11, by omega⟩
    else if h : n.val < 18 then .xes ⟨n.val - 14, by omega⟩
    else if h : n.val < 20 then .ybs ⟨n.val - 18, by omega⟩
    else if h : n.val < 28 then .xr ⟨n.val - 20, by omega⟩
    else if h : n.val < 36 then .yr ⟨n.val - 28, by omega⟩
    else if h : n.val < 41 then .zar ⟨n.val - 36, by omega⟩
    else if h : n.val < 46 then .zbr ⟨n.val - 41, by omega⟩
    else if h : n.val < 50 then .xer ⟨n.val - 46, by omega⟩
    else if h : n.val < 52 then .ybr ⟨n.val - 50, by omega⟩
    else .out ⟨n.val - 52, by have h : n.val < 54 := n.isLt; omega⟩

theorem dec_sem (x : Ch) : dec x.sem = x := by
  cases x <;> first | rfl | (rename_i i; revert i; decide +kernel)

theorem sem_inj {x y : Ch} (h : x.sem = y.sem) : x = y := by rw [← dec_sem x, h, dec_sem]

theorem mem_chs (x : Ch) : x ∈ chs := by
  cases x <;> first | (rename_i i; revert i; decide +kernel) | decide +kernel
theorem chs_nodup : chs.Nodup := by decide +kernel

instance : Fintype Ch := ⟨⟨chs, chs_nodup⟩, mem_chs⟩

/-- A cell of a device. -/
abbrev cell (c : Dev nD) (x : Ch) : GSem nD τ sig := ((c : Thread nD τ), x.sem)

theorem cell_inj {c c' : Dev nD} {x y : Ch} (h : cell c x = cell c' y) : c = c' ∧ x = y :=
  ⟨congrArg (fun g : GSem nD τ sig => g.1.1) h, sem_inj (congrArg Prod.snd h)⟩

/-! ## Amounts -/

/-- What a chunk of `256` rows of the narrow format credits, of the wide one, and a wide quarter. -/
abbrev N : ℕ := 16384
abbrev NF : ℕ := 32768
abbrev NB : ℕ := 262144

theorem amt_rem (q : Quart) (c : Dev nD) (k : Fin 8) : (remC q c k).view.dmaCredit = N := by
  show RefSig.tileCredit S256x1024 .bf16 = N; decide +kernel
theorem amt_out (q : Quart) (c : Dev nD) (k : Fin 8) : (outC q c k).view.dmaCredit = N := by
  show RefSig.tileCredit S256x1024 .bf16 = N; decide +kernel
theorem amt_sq (i : Fin 12) : (sqC i).view.dmaCredit = N := by
  show RefSig.tileCredit S256x1024 .bf16 = N; decide +kernel
theorem amt_loc (q : Quart) (c : Dev nD) (k : Fin 8) : (locC q c k).view.dmaCredit = NF := by
  show RefSig.tileCredit S256x1024 .f32 = NF; decide +kernel
theorem amt_locB (b : Fin 3) (c : Dev nD) : (locB b c).view.dmaCredit = NB := by
  show RefSig.tileCredit S2048x1024 .f32 = NB; decide +kernel

/-! ## Pieces of the buffers -/

/-- A part of the input, of its local copy, of the receive buffer, of the result. -/
abbrev xP (c : Dev nD) (I : Finset S8192x1024.Idx) (q : PosShare TreeShare) (f : S8192x1024.Idx → Elt F .f32) : sProp 𝕄 :=
  (xM : Memref sig .tc .hbm S8192x1024 .f32).view.loc (c : Thread nD τ) ↦[I]{q} f
abbrev locP (c : Dev nD) (I : Finset S8192x1024.Idx) (q : PosShare TreeShare) (f : S8192x1024.Idx → Elt F .f32) : sProp 𝕄 :=
  (locM : Memref sig .tc .vmem S8192x1024 .f32).view.loc (c : Thread nD τ) ↦[I]{q} f
abbrev remP (c : Dev nD) (I : Finset S8192x1024.Idx) (q : PosShare TreeShare) (f : S8192x1024.Idx → Elt F .bf16) : sProp 𝕄 :=
  (remM : Memref sig .tc .vmem S8192x1024 .bf16).view.loc (c : Thread nD τ) ↦[I]{q} f
abbrev outP (c : Dev nD) (I : Finset S8192x1024.Idx) (q : PosShare TreeShare) (f : S8192x1024.Idx → Elt F .bf16) : sProp 𝕄 :=
  (outM : Memref sig .tc .hbm S8192x1024 .bf16).view.loc (c : Thread nD τ) ↦[I]{q} f
abbrev sqP (c : Dev nD) (I : Finset S3072x1024.Idx) (q : PosShare TreeShare) (f : S3072x1024.Idx → Elt F .bf16) : sProp 𝕄 :=
  (sqM : Memref sig .tc .vmem S3072x1024 .bf16).view.loc (c : Thread nD τ) ↦[I]{q} f
abbrev osP (c : Dev nD) (I : Finset S2x256x1024.Idx) (q : PosShare TreeShare) (f : S2x256x1024.Idx → Elt F .bf16) : sProp 𝕄 :=
  (osM : Memref sig .tc .vmem S2x256x1024 .bf16).view.loc (c : Thread nD τ) ↦[I]{q} f

/-- The chunks of the receive buffer of the neighbour in direction `a` that the device writes into,
    as it names them. -/
def lends (a : Fin 3) : List (Quart × Fin 8) :=
  match a with
  | 0 => (List.finRange 8).map (fun k => (.own, k)) ++ (List.finRange 4).map (fun i => (xeQ i, xeK i))
  | 1 => (List.finRange 8).map (fun k => (.own, k)) ++ (List.finRange 2).map (fun i => (.za, k2 i))
  | 2 => (List.finRange 5).map (fun i => (.own, k5 i)) ++ (List.finRange 5).map (fun i => (.y, k5b i))

/-- The `n`-th chunk of the result, `n` counted from `0` (past `31` it begins again). -/
def chN (c : Dev nD) (n : ℕ) : Fin 32 := ch (emQ (Fin.ofNat 32 n)) c (emK (Fin.ofNat 32 n))

/-- Chunk `q`, `k` of the receive buffer of neighbour `a`, whatever it holds. -/
def peerP (c : Dev nD) (a : Fin 3) (q : Quart) (k : Fin 8) : sProp 𝕄 :=
  iprop(∃ f, remP (F := F) (nb a c) (cset (ch q c k)) fullShare f)

def sqAny (c : Dev nD) (i : Fin 12) : sProp 𝕄 := iprop(∃ f, sqP (F := F) c (sqset i) fullShare f)
def osAny (c : Dev nD) (s : Fin 2) : sProp 𝕄 := iprop(∃ f, osP (F := F) c (osset s) fullShare f)

section Sched
variable (X : Dev nD → S8192x1024.Idx → Elt F .f32)

/-- Chunk `q`, `k` of the receive buffer, received, in share `s`. -/
def remH (c : Dev nD) (q : Quart) (k : Fin 8) (s : PosShare TreeShare) : sProp 𝕄 := remP c (cset (ch q c k)) s (remV X c)
/-- Chunk `q`, `k` of the local copy, fetched. -/
def locH (c : Dev nD) (q : Quart) (k : Fin 8) : sProp 𝕄 := locP c (cset (ch q c k)) fullShare (X c)
/-- Chunk `k` of the own quarter of the input, and quarter `b` of it. -/
def xH (c : Dev nD) (k : Fin 8) : sProp 𝕄 := xP c (cset (ch .own c k)) fullShare (X c)
def xbH (c : Dev nD) (b : Fin 3) : sProp 𝕄 := xP c (bset (quart (bQ b) c)) fullShare (X c)
def locbH (c : Dev nD) (b : Fin 3) : sProp 𝕄 := locP c (bset (quart (bQ b) c)) fullShare (X c)
/-- Chunk `n` of the result, written. -/
def outH (c : Dev nD) (n : ℕ) : sProp 𝕄 := outP c (cset (chN c n)) fullShare (outV X c)

/-- The arrivals of round `r`. -/
def dutiesC (x : Ch) (r : ℕ) : Finset D :=
  match x with
  | .fetch _ => if r < 2 then {0} else ∅
  | .out _ => if r < 16 then {0} else ∅
  | .fwd a => if r = 0 then (if a = 0 then Finset.univ else {0, 1, 2, 3, 4}) else ∅
  | .ready => if r = 0 then {0, 1, 2} else ∅
  | _ => if r = 0 then {0} else ∅

/-- The number of rounds. -/
def rounds (x : Ch) : ℕ := match x with | .fetch _ => 2 | .out _ => 16 | _ => 1

/-- What an arrival of round `r` credits. -/
def amountC (x : Ch) (r : ℕ) : ℕ :=
  match x with
  | .fetch _ => if r = 0 then NF else N
  | .bulk _ => NB
  | .ready => 1
  | _ => N

/-- The share that is lent to the first departure out of a chunk, and to the second. -/
abbrev sL : PosShare TreeShare := (fullShare : PosShare TreeShare).left
abbrev sR : PosShare TreeShare := (fullShare : PosShare TreeShare).right
abbrev sRL : PosShare TreeShare := (fullShare : PosShare TreeShare).right.left
abbrev sRR : PosShare TreeShare := (fullShare : PosShare TreeShare).right.right

/-- What comes back when the `d`-th departure on road `a` is over. -/
def fwdPay (c : Dev nD) (a : Fin 3) (d : D) : sProp 𝕄 :=
  match a with
  | 0 => remH X c .own d sL
  | 1 => remH X c .own d sRL
  | 2 => remH X c .y ⟨(d.val + 2) % 8, Nat.mod_lt _ (by decide)⟩ sL

/-- What arrival `d` of round `r` hands over. -/
def payC (c : Dev nD) (x : Ch) (r : ℕ) (d : D) : sProp 𝕄 :=
  match x with
  | .fetch k => if r = 0 then iprop(xH X c k ∗ locH X c .own k) else sqAny c (injS k)
  | .bulk b => iprop(xbH X c b ∗ locbH X c b)
  | .fwd a => fwdPay X c a d
  | .xes i => sqAny c (xeS i)
  | .ybs i => remH X c .za (k2 i) sL
  | .xr k => remH X c .own k fullShare
  | .yr k => remH X c .y k fullShare
  | .zar i => remH X c .za (k5 i) fullShare
  | .zbr i => remH X c .zb (k5b i) fullShare
  | .xer i => remH X c (xeQ i) (xeK i) fullShare
  | .ybr i => remH X c .zb (k2 i) fullShare
  | .out s => iprop(outH X c (2 * r + s.val) ∗ osAny c s)
  | .ready => match d with
    | 0 => bigSepL (lends 0) fun p => peerP c 0 p.1 p.2
    | 1 => bigSepL (lends 1) fun p => peerP c 1 p.1 p.2
    | _ => bigSepL (lends 2) fun p => peerP c 2 p.1 p.2

theorem amountC_pos (x : Ch) (r : ℕ) : 0 < amountC x r := by
  unfold amountC; cases x <;> simp only <;> (try split) <;> decide

/-- The schedule of all cells. -/
def Rd : Rounds.Schedule (GSem nD τ sig) D 𝕄 where
  duties g r := if g.1.2 = .tc then dutiesC (dec g.2) r else ∅
  unitless _ := False
  amount g r _ := amountC (dec g.2) r
  payload g r d := payC X g.1.1 (dec g.2) r d
  amount_pos g r d h := amountC_pos _ _

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => show BI.Storable (upEmb : UEmb _ 𝕄) (iprop(emp) : sProp 𝕄); infer_instance
  | cons i l ih => rw [bigSepL_cons']; infer_instance

instance remH_storable (c : Dev nD) (q : Quart) (k : Fin 8) (s : PosShare TreeShare) :
    BI.Storable (upEmb : UEmb _ 𝕄) (remH X c q k s) := by unfold remH; infer_instance
instance sqAny_storable (c : Dev nD) (i : Fin 12) : BI.Storable (upEmb : UEmb _ 𝕄) (sqAny (F := F) c i) := by
  unfold sqAny; infer_instance
instance osAny_storable (c : Dev nD) (s : Fin 2) : BI.Storable (upEmb : UEmb _ 𝕄) (osAny (F := F) c s) := by
  unfold osAny; infer_instance
instance peerP_storable (c : Dev nD) (a : Fin 3) (q : Quart) (k : Fin 8) :
    BI.Storable (upEmb : UEmb _ 𝕄) (peerP (F := F) c a q k) := by unfold peerP; infer_instance
instance fwdPay_storable (c : Dev nD) (a : Fin 3) (d : D) : BI.Storable (upEmb : UEmb _ 𝕄) (fwdPay X c a d) := by
  unfold fwdPay; split <;> infer_instance

instance payC_storable (c : Dev nD) (x : Ch) (r : ℕ) (d : D) : BI.Storable (upEmb : UEmb _ 𝕄) (payC X c x r d) := by
  cases x <;> unfold payC <;> dsimp only [outH, xH, xbH, locH, locbH] <;> (repeat' split) <;> infer_instance

instance Rd_storable (g : GSem nD τ sig) (r : ℕ) (d : D) : BI.Storable (upEmb : UEmb _ 𝕄) ((Rd X).payload g r d) :=
  payC_storable X g.1.1 (dec g.2) r d

theorem duties_cell (c : Dev nD) (x : Ch) (r : ℕ) : (Rd X).duties (cell c x) r = dutiesC x r := by
  dsimp only [Rd]; rw [dec_sem, if_pos rfl]
theorem amount_cell (c : Dev nD) (x : Ch) (r : ℕ) (d : D) : (Rd X).amount (cell c x) r d = amountC x r := by
  dsimp only [Rd]; rw [dec_sem]
theorem payload_cell (c : Dev nD) (x : Ch) (r : ℕ) (d : D) : (Rd X).payload (cell c x) r d = payC X c x r d := by
  dsimp only [Rd]; rw [dec_sem]
theorem expect_cell (c : Dev nD) (x : Ch) (r : ℕ) : (Rd X).expect (cell c x) r = (dutiesC x r).card * amountC x r := by
  unfold Schedule.expect Schedule.amountOf
  rw [duties_cell, Finset.sum_congr rfl fun d _ => amount_cell X c x r d, Finset.sum_const, smul_eq_mul]

theorem duties_over (x : Ch) {r : ℕ} (h : rounds x ≤ r) : dutiesC x r = ∅ := by
  cases x <;> simp only [rounds, dutiesC] at * <;> exact if_neg (by omega)

end Sched

/-! ## What a device owes, and the order in which the cells are waited for -/

/-- An arrival a device brings about at a neighbour: the direction, the cell there, which arrival. -/
structure Due where
  a : Fin 3
  x : Ch
  d : D
  deriving DecidableEq

/-- What is owed while the arrivals of a list are still to be brought about. -/
def owed (c : Dev nD) : List Due → CellTallies nD τ sig Unit
  | [] => 0
  | p :: l => owed c l + tallyAt (cell (nb p.a c) p.x) () (amountC p.x 0)

/-- Arrivals from afar are waited for in this order; everything else before them. -/
def lvC : Ch → ℕ
  | .xr _ => 1 | .yr _ => 2 | .zar _ => 2 | .xer _ => 2 | .zbr _ => 3 | .ybr _ => 3 | _ => 0

def L (g : GSem nD τ sig) : Finset Unit := if g.1.2 = .tc then {()} else ∅
def lv (g : GSem nD τ sig) (_ : Unit) : ℕ := lvC (dec g.2)
theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {g : GSem nD τ sig} {u : Unit} :
    ∀ {l : List Due}, 0 < owed c l g u → ∃ p ∈ l, g = cell (nb p.a c) p.x
  | [], h => absurd h (Nat.lt_irrefl 0)
  | p :: l, h => by
    unfold owed at h
    rw [Pi.add_apply, Finsupp.add_apply, tallyAt_apply] at h
    by_cases hg : g = cell (nb p.a c) p.x ∧ u = ()
    · exact ⟨p, List.mem_cons_self, hg.1⟩
    · rw [if_neg hg, Nat.add_zero] at h
      obtain ⟨p', hp, he⟩ := owed_pos h
      exact ⟨p', List.mem_cons_of_mem _ hp, he⟩

/-- A cell may be waited for while only later ones are owed. -/
theorem mayWait (c : Dev nD) (x : Ch) (l : List Due) (h : ∀ p ∈ l, lvC x < lvC p.x) :
    (levAts L lv : sProp 𝕄) ⊢ MayWait (c : Thread nD τ) x.sem () (owed c l) :=
  MayOwe.of_cut (L := L) (lev := lv) (lvC x) (fun p hp => by rw [Finset.mem_singleton.mp hp, L_tc]; exact Finset.mem_singleton_self _)
    (fun g u hg => by
      obtain ⟨p, hp, rfl⟩ := owed_pos hg
      exact Finset.mem_singleton_self _)
    (fun p hp => by rw [Finset.mem_singleton.mp hp]; show lvC (dec x.sem) ≤ _; rw [dec_sem])
    (fun g u hg => by
      obtain ⟨p, hp, rfl⟩ := owed_pos hg
      show _ < lvC (dec p.x.sem)
      rw [dec_sem]; exact h p hp)

end Cert.KernelIdeal.Hop

end
-- ==== Proof.Ledger.lean ====
/-
# The ledger: the run as a list of moves, each taking some holdings and giving others

What a device holds at any moment is a list of `Atom`s (a piece of a buffer, a token, a credit, a
position). A move (`Op`) takes some away and gives others back; `pre` and `post` say which. The
whole run is the list `moves`, and that every move finds what it takes, that the arrivals owed are
brought about in the order `dues`, and that each wait is for something earlier than all that is
still owed, is then a computation on lists (`ledger_ok`). What the atoms mean is in
`Proof/Holdings.lean`, that the moves do what is said here in `Proof/Moves.lean`.
-/
module

public import proofs.«01_k».proof.Proof.Cells

@[expose] public section

noncomputable section

namespace Cert.KernelIdeal.Hop

open Cert.KernelIdeal Cert.KernelIdeal.Gen
open Idealize.ShloMosaic Idealize.ShloMosaic.TcCoe
open Idealize.SL Idealize.SL.Sem

variable {F : FTy → Type} [FloatOps F]

/-- Shares: all, the left half, the right half, and the halves of the right half. -/
inductive Sh
  | all | l | r | rl | rr
  deriving DecidableEq

/-- What a device may hold. -/
inductive Atom
  | x (k : Fin 8) | xb (b : Fin 3)
  | loc0 (k : Fin 8) | locb0 (b : Fin 3) | loc (q : Quart) (k : Fin 8)
  | rem (q : Quart) (k : Fin 8) (s : Sh)
  | lend (a : Fin 3) | peer (a : Fin 3) (q : Quart) (k : Fin 8)
  | sq (i : Fin 12) | os (s : Fin 2)
  | out0 (n : ℕ) | out (n : ℕ)
  | tok (x : Ch) (r : ℕ) (d : D) | due (p : Due)
  | pos (x : Ch) (r : ℕ) | part (a : Fin 3) (j : ℕ)
  | cred (x : Ch) (r : ℕ) (d : D) | meetCred
  deriving DecidableEq

/-- The moves of the run. -/
inductive Op
  | fetch (k : Fin 8) | bulk (b : Fin 3) | ready (a : Fin 3) | meet
  | fetched (k : Fin 8) | bulked (b : Fin 3) | inject (k : Fin 8) | xe (i : Fin 4)
  | recvX (k : Fin 8) | recvY (k : Fin 8) | recvZa (i : Fin 5) | recvZb (i : Fin 5) | recvXe (i : Fin 4) | recvYb (i : Fin 2)
  | fwy (k : Fin 8) | fwz (i : Fin 5) | zb (i : Fin 5) | yb (i : Fin 2)
  | write (n : Fin 32) | wrote (n : Fin 32)
  | leftIn (k : Fin 8) | left (a : Fin 3) (j : Fin 8) | leftXe (i : Fin 4) | leftYb (i : Fin 2)

/-- The quarter and chunk the `j`-th wait on road `a` names. -/
def leftQ (a : Fin 3) : Quart := match a with | 0 | 1 => .own | 2 => .y
def leftK (a : Fin 3) (j : Fin 8) : Fin 8 := match a with | 0 | 1 => j | 2 => ⟨(j.val + 2) % 8, Nat.mod_lt _ (by decide)⟩

/-- The program of a move. -/
def opP (c : Dev nD) : Op → PG F
  | .fetch k => fetchP c k
  | .bulk b => bulkP c b
  | .ready a => readyP c a
  | .meet => semWaitWord bar 3#32
  | .fetched k => fetchWait c k
  | .bulked b => bulkWait c b
  | .inject k => packP c .own k (injS k) >>= fun _ => postP c (injD k c) (injS k) .own k (dsem cc0_scratch4 k) (dsem cc0_scratch9 k)
  | .xe i => packP c (xeQ i) (xeK i) (xeS i) >>= fun _ => postP c (xeD i c) (xeS i) (xeQ i) (xeK i) (dsem cc0_scratch7 i) (dsem cc0_scratch13 i)
  | .recvX k => postWait c (dsem cc0_scratch9 k) (injS k) .own k
  | .recvY k => passWait c (dsem cc0_scratch10 k) .y k
  | .recvZa i => passWait c (dsem cc0_scratch11 i) .own (k5 i)
  | .recvZb i => passWait c (dsem cc0_scratch12 i) .y (k5b i)
  | .recvXe i => postWait c (dsem cc0_scratch13 i) (xeS i) (xeQ i) (xeK i)
  | .recvYb i => passWait c (dsem cc0_scratch14 i) .zb (k2 i)
  | .fwy k => passP c (fwyD k c) .own k (dsem cc0_scratch6 0) (dsem cc0_scratch10 k)
  | .fwz i => passP c (fwzD i c) .own (k5 i) (dsem cc0_scratch6 1) (dsem cc0_scratch11 i)
  | .zb i => passP c (zbD i c) .y (k5b i) (dsem cc0_scratch6 2) (dsem cc0_scratch12 i)
  | .yb i => passP c (ybD i c) .za (k2 i) (dsem cc0_scratch8 i) (dsem cc0_scratch14 i)
  | .write n => writeP c n
  | .wrote n => outWait c n
  | .leftIn k => leftWait c (dsem cc0_scratch4 k) .own k (injS k)
  | .left a j => passWait c (dsem cc0_scratch6 a) (leftQ a) (leftK a j)
  | .leftXe i => leftWait c (dsem cc0_scratch7 i) (xeQ i) (xeK i) (xeS i)
  | .leftYb i => passWait c (dsem cc0_scratch8 i) .za (k2 i)

/-! ## The list of moves -/

/-- Write chunk `n` of the result, the slot freed before. -/
def emit (n : ℕ) : List Op :=
  if n < 2 then [.write (Fin.ofNat 32 n)] else [.wrote (Fin.ofNat 32 (n - 2)), .write (Fin.ofNat 32 n)]

def movesOpen : List Op :=
  (List.finRange 8).map .fetch ++ (List.finRange 3).map .bulk ++ (List.finRange 3).map .ready ++ [.meet]
    ++ (List.finRange 8).flatMap fun k => [.fetched k, .inject k]

def hopL (k : Fin 8) : List Op := [.recvX k, .fwy k] ++ emit k.val

def movesOwn : List Op :=
  ((List.finRange 5).flatMap fun i => [.recvX (k5 i), .fwy (k5 i), .fwz i] ++ emit i.val)
    ++ [.bulked 0, .xe 0, .xe 1, .xe 2] ++ hopL 5 ++ [.bulked 1, .xe 3] ++ hopL 6 ++ hopL 7

def movesRest : List Op :=
  [.bulked 2, .recvY 0] ++ emit 8 ++ [.recvY 1] ++ emit 9
    ++ ((List.finRange 5).flatMap fun i => [.recvY (k5b i), .zb i] ++ emit (i.val + 10))
    ++ [.recvY 7] ++ emit 15
    ++ ((List.finRange 2).flatMap fun i => [.recvZa ⟨i.val, by omega⟩, .yb i] ++ emit (i.val + 16))
    ++ ((List.finRange 3).flatMap fun j => [.recvZa ⟨j.val + 2, by omega⟩] ++ emit (j.val + 18))
    ++ ((List.finRange 3).flatMap fun i => [.recvXe ⟨i.val, by omega⟩] ++ emit (i.val + 21))
    ++ ((List.finRange 2).flatMap fun i => [.recvYb i] ++ emit (i.val + 24))
    ++ ((List.finRange 5).flatMap fun i => [.recvZb i] ++ emit (i.val + 26))
    ++ [.recvXe 3] ++ emit 31

def movesDrain : List Op :=
  [.wrote 30, .wrote 31] ++ ((List.finRange 8).flatMap fun k => [.leftIn k, .left 0 k])
    ++ ((List.finRange 5).map fun i => .left 1 ⟨i.val, by omega⟩) ++ ((List.finRange 5).map fun i => .left 2 ⟨i.val, by omega⟩)
    ++ (List.finRange 4).map .leftXe ++ (List.finRange 2).map .leftYb

def moves : List Op := movesOpen ++ movesOwn ++ movesRest ++ movesDrain

/-! ## What the moves take and give -/

/-- The share of chunk `n` that is at home when it is written. -/
def shN (n : Fin 32) : Sh :=
  if n.val < 5 then .rr else if n.val < 8 then .r else if 10 ≤ n.val ∧ n.val < 15 then .r
  else if n.val = 16 ∨ n.val = 17 then .r else .all

def dOf (a : Fin 3) : D := ⟨a.val, by omega⟩
def d5 (i : Fin 5) : D := ⟨i.val, by omega⟩

/-- The number of departures on road `a`. -/
def fwdN (a : Fin 3) : ℕ := match a with | 0 => 8 | _ => 5
/-- What comes back when the last of them is over. -/
def fwdBack (a : Fin 3) : List Atom :=
  match a with
  | 0 => (List.finRange 8).map fun k => .rem .own k .l
  | 1 => (List.finRange 5).map fun i => .rem .own (k5 i) .rl
  | 2 => (List.finRange 5).map fun i => .rem .y (k5b i) .l

def pre : Op → List Atom
  | .fetch k => [.x k, .loc0 k, .tok (.fetch k) 0 0]
  | .bulk b => [.xb b, .locb0 b, .tok (.bulk b) 0 0]
  | .ready a => [.lend a, .due ⟨a, .ready, dOf a⟩]
  | .meet => [.meetCred, .pos .ready 0]
  | .fetched k => [.cred (.fetch k) 0 0, .pos (.fetch k) 0]
  | .bulked b => [.cred (.bulk b) 0 0, .pos (.bulk b) 0]
  | .inject k => [.loc .own k, .sq (injS k), .peer 0 .own k, .tok (.fetch k) 1 0, .due ⟨0, .xr k, 0⟩, .pos (.fetch k) 1]
  | .xe i => [.loc (xeQ i) (xeK i), .sq (xeS i), .peer 0 (xeQ i) (xeK i), .tok (.xes i) 0 0, .due ⟨0, .xer i, 0⟩]
  | .recvX k => [.cred (.xr k) 0 0, .pos (.xr k) 0]
  | .recvY k => [.cred (.yr k) 0 0, .pos (.yr k) 0]
  | .recvZa i => [.cred (.zar i) 0 0, .pos (.zar i) 0]
  | .recvZb i => [.cred (.zbr i) 0 0, .pos (.zbr i) 0]
  | .recvXe i => [.cred (.xer i) 0 0, .pos (.xer i) 0]
  | .recvYb i => [.cred (.ybr i) 0 0, .pos (.ybr i) 0]
  | .fwy k => [.rem .own k .all, .peer 1 .own k, .tok (.fwd 0) 0 k, .due ⟨1, .yr k, 0⟩]
  | .fwz i => [.rem .own (k5 i) .r, .peer 2 .own (k5 i), .tok (.fwd 1) 0 (d5 i), .due ⟨2, .zar i, 0⟩]
  | .zb i => [.rem .y (k5b i) .all, .peer 2 .y (k5b i), .tok (.fwd 2) 0 (d5 i), .due ⟨2, .zbr i, 0⟩]
  | .yb i => [.rem .za (k2 i) .all, .peer 1 .za (k2 i), .tok (.ybs i) 0 0, .due ⟨1, .ybr i, 0⟩]
  | .write n => [.loc (emQ n) (emK n), .rem (emQ n) (emK n) (shN n), .os (emS n), .out0 n.val, .tok (.out (emS n)) (n.val / 2) 0,
      .pos (.out (emS n)) (n.val / 2)]
  | .wrote n => [.cred (.out (emS n)) (n.val / 2) 0, .pos (.out (emS n)) (n.val / 2)]
  | .leftIn k => [.cred (.fetch k) 1 0, .pos (.fetch k) 1]
  | .left a j => [.cred (.fwd a) 0 j, .part a j.val]
  | .leftXe i => [.cred (.xes i) 0 0, .pos (.xes i) 0]
  | .leftYb i => [.cred (.ybs i) 0 0, .pos (.ybs i) 0]

def post : Op → List Atom
  | .fetch k => [.cred (.fetch k) 0 0]
  | .bulk b => [.cred (.bulk b) 0 0]
  | .ready a => []
  | .meet => .pos .ready 1 :: (((lends 0).map fun p => .peer 0 p.1 p.2) ++ ((lends 1).map fun p => .peer 1 p.1 p.2)
      ++ ((lends 2).map fun p => .peer 2 p.1 p.2))
  | .fetched k => [.x k, .loc .own k, .pos (.fetch k) 1]
  | .bulked b => .xb b :: .pos (.bulk b) 1 :: (List.finRange 8).map fun k => .loc (bQ b) k
  | .inject k => [.loc .own k, .cred (.fetch k) 1 0, .pos (.fetch k) 1]
  | .xe i => [.loc (xeQ i) (xeK i), .cred (.xes i) 0 0]
  | .recvX k => [.rem .own k .all, .pos (.xr k) 1]
  | .recvY k => [.rem .y k .all, .pos (.yr k) 1]
  | .recvZa i => [.rem .za (k5 i) .all, .pos (.zar i) 1]
  | .recvZb i => [.rem .zb (k5b i) .all, .pos (.zbr i) 1]
  | .recvXe i => [.rem (xeQ i) (xeK i) .all, .pos (.xer i) 1]
  | .recvYb i => [.rem .zb (k2 i) .all, .pos (.ybr i) 1]
  | .fwy k => [.rem .own k .r, .cred (.fwd 0) 0 k]
  | .fwz i => [.rem .own (k5 i) .rr, .cred (.fwd 1) 0 (d5 i)]
  | .zb i => [.rem .y (k5b i) .r, .cred (.fwd 2) 0 (d5 i)]
  | .yb i => [.rem .za (k2 i) .r, .cred (.ybs i) 0 0]
  | .write n => [.loc (emQ n) (emK n), .rem (emQ n) (emK n) (shN n), .cred (.out (emS n)) (n.val / 2) 0, .pos (.out (emS n)) (n.val / 2)]
  | .wrote n => [.out n.val, .os (emS n), .pos (.out (emS n)) (n.val / 2 + 1)]
  | .leftIn k => [.sq (injS k), .pos (.fetch k) 2]
  | .left a j => if j.val + 1 = fwdN a then .pos (.fwd a) 1 :: fwdBack a else [.part a (j.val + 1)]
  | .leftXe i => [.sq (xeS i), .pos (.xes i) 1]
  | .leftYb i => [.rem .za (k2 i) .l, .pos (.ybs i) 1]

/-- The arrival at a neighbour a move brings about. -/
def dueOf : Op → Option Due
  | .ready a => some ⟨a, .ready, dOf a⟩
  | .inject k => some ⟨0, .xr k, 0⟩
  | .xe i => some ⟨0, .xer i, 0⟩
  | .fwy k => some ⟨1, .yr k, 0⟩
  | .fwz i => some ⟨2, .zar i, 0⟩
  | .zb i => some ⟨2, .zbr i, 0⟩
  | .yb i => some ⟨1, .ybr i, 0⟩
  | _ => none

/-- The cell a move waits for. -/
def waitOf : Op → Option Ch
  | .meet => some .ready
  | .fetched k => some (.fetch k)
  | .bulked b => some (.bulk b)
  | .recvX k => some (.xr k)
  | .recvY k => some (.yr k)
  | .recvZa i => some (.zar i)
  | .recvZb i => some (.zbr i)
  | .recvXe i => some (.xer i)
  | .recvYb i => some (.ybr i)
  | .wrote n => some (.out (emS n))
  | .leftIn k => some (.fetch k)
  | .left a _ => some (.fwd a)
  | .leftXe i => some (.xes i)
  | .leftYb i => some (.ybs i)
  | _ => none

/-- The arrivals a device brings about, in their order. -/
def dues : List Due := moves.filterMap dueOf

/-- What is still owed after a move; none if the move may not come now. -/
def pay (o : Op) (l : List Due) : Option (List Due) :=
  match dueOf o with
  | some p => match l with
    | [] => none
    | p' :: l' => if p' = p then some l' else none
  | none => match waitOf o with
    | some x => if ∀ p ∈ l, lvC x < lvC p.x then some l else none
    | none => some l

/-- Take the atoms of a list out of another. -/
def take : List Atom → List Atom → Option (List Atom)
  | [], S => some S
  | a :: p, S => if a ∈ S then take p (S.erase a) else none

/-- Run the moves on what is held and what is owed. -/
def run : List Op → List Atom → List Due → Option (List Atom × List Due)
  | [], S, l => some (S, l)
  | o :: os, S, l => match take (pre o) S, pay o l with
    | some S', some l' => run os (post o ++ S') l'
    | _, _ => none

/-! ## The beginning and the end -/

/-- The cells the device's own arrivals come to, with the rounds of each: the tokens it keeps. -/
def ownToks : List (Ch × ℕ × D) :=
  ((List.finRange 8).flatMap fun k => [(.fetch k, 0, 0), (.fetch k, 1, 0)])
    ++ ((List.finRange 3).map fun b => (.bulk b, 0, 0))
    ++ ((List.finRange 8).map fun k => (.fwd 0, 0, k)) ++ ((List.finRange 5).map fun i => (.fwd 1, 0, d5 i))
    ++ ((List.finRange 5).map fun i => (.fwd 2, 0, d5 i))
    ++ ((List.finRange 4).map fun i => (.xes i, 0, 0)) ++ ((List.finRange 2).map fun i => (.ybs i, 0, 0))
    ++ ((List.finRange 32).map fun n => (.out (emS n), n.val / 2, 0))

/-- The cells arrivals from afar come to. -/
def recvs : List Ch :=
  (List.finRange 8).map .xr ++ (List.finRange 8).map .yr ++ (List.finRange 5).map .zar
    ++ (List.finRange 5).map .zbr ++ (List.finRange 4).map .xer ++ (List.finRange 2).map .ybr

/-- The cells at the beginning of their rounds, those of the three roads apart. -/
def plain : List Ch := chs.filter fun x => match x with | .fwd _ => false | _ => true

def atoms₀ : List Atom :=
  (List.finRange 8).map .x ++ (List.finRange 3).map .xb ++ (List.finRange 8).map .loc0 ++ (List.finRange 3).map .locb0
    ++ (List.finRange 3).map .lend ++ (List.finRange 12).map .sq ++ (List.finRange 2).map .os
    ++ (List.finRange 32).map (fun n => .out0 n.val)
    ++ ownToks.map (fun t => .tok t.1 t.2.1 t.2.2) ++ dues.map .due
    ++ plain.map (fun x => .pos x 0) ++ (List.finRange 3).map (fun a => .part a 0)
    ++ recvs.map (fun x => .cred x 0 0) ++ [.meetCred]

/-- The chunks of a quarter, and the parts their receive buffer is in at the end. -/
def remEnd : List Atom :=
  ((List.finRange 8).flatMap fun k => if k.val < 5 then [.rem .own k .l, .rem .own k .rl, .rem .own k .rr] else [.rem .own k .l, .rem .own k .r])
    ++ ((List.finRange 8).flatMap fun k => if 2 ≤ k.val ∧ k.val < 7 then [.rem .y k .l, .rem .y k .r] else [.rem .y k .all])
    ++ ((List.finRange 8).flatMap fun k => if k.val < 2 then [.rem .za k .l, .rem .za k .r] else [.rem .za k .all])
    ++ ((List.finRange 8).flatMap fun k => [.rem .zb k .all])

def atoms₁ : List Atom :=
  (List.finRange 8).map .x ++ (List.finRange 3).map .xb
    ++ ([Quart.own, .y, .za, .zb].flatMap fun q => (List.finRange 8).map fun k => .loc q k)
    ++ remEnd ++ (List.finRange 12).map .sq ++ (List.finRange 2).map .os
    ++ (List.finRange 32).map (fun n => .out n.val) ++ chs.map (fun x => .pos x (rounds x))

/-- The moves take only what is held, owe nothing at the end, and end holding everything again. -/
theorem ledger_ok :
    (run moves atoms₀ dues).bind (fun r => if r.2 = [] then take atoms₁ r.1 else none) = some [] := by
  decide +kernel

/-- The structured body is the run of the moves. -/
theorem mainP_eq (c : Dev nD) : mainP (F := F) c = forP (opP c) moves := by chain_rfl

end Cert.KernelIdeal.Hop

end
-- ==== Proof.Holdings.lean ====
/-
# What the atoms of the ledger mean, and that a list of sound moves is a sound run
-/
module

public import proofs.«01_k».proof.Proof.Ledger

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The share a name of a share stands for. -/
def sh : Sh → PosShare TreeShare
  | .all => fullShare | .l => sL | .r => sR | .rl => sRL | .rr => sRR

theorem bigSepL_nil' {I : Type} (Φ : I → sProp 𝕄) : bigSepL [] Φ = iprop(emp) := rfl

section Own
variable (X : Dev nD → S8192x1024.Idx → Elt F .f32)

/-- The device is at the beginning of round `r` of a cell. -/
def posH (c : Dev nD) (x : Ch) (r : ℕ) : sProp 𝕄 :=
  iprop(atPos ER (cell c x) r ∅ 0 ∗ reached ER (cell c x) r)

/-- On road `a`, `j` departures' worth has been waited for: what has come back so far. -/
def partH (c : Dev nD) (a : Fin 3) (j : ℕ) : sProp 𝕄 :=
  iprop(∃ T : Finset D, ⌜T ⊆ dutiesC (.fwd a) 0⌝ ∗ atPos ER (cell c (.fwd a)) 0 T (j * N)
    ∗ bigSep T fun d => fwdPay X c a d)

/-- What an atom is, on device `c`. -/
def own (c : Dev nD) : Atom → sProp 𝕄
  | .x k => xH X c k
  | .xb b => xbH X c b
  | .loc0 k => iprop(∃ f, locP (F := F) c (cset (ch .own c k)) fullShare f)
  | .locb0 b => iprop(∃ f, locP (F := F) c (bset (quart (bQ b) c)) fullShare f)
  | .loc q k => locH X c q k
  | .rem q k s => remH X c q k (sh s)
  | .lend a => payC X (nb a c) .ready 0 (dOf a)
  | .peer a q k => peerP c a q k
  | .sq i => sqAny c i
  | .os s => osAny c s
  | .out0 n => iprop(∃ f, outP (F := F) c (cset (chN c n)) fullShare f)
  | .out n => outH X c n
  | .tok x r d => dutyTok ER (cell c x) r d
  | .due p => dutyTok ER (cell (nb p.a c) p.x) 0 p.d
  | .pos x r => posH c x r
  | .part a j => partH X c a j
  | .cred x r d => cred (tallyAt (cell c x) () (amountC x r))
  | .meetCred => cred (tallyAt (cell c .ready) () 3)

/-- What is known of all cells throughout: the protocol of each, that each has begun, and the order
    in which they are waited for. -/
def records (K : Dev nD × Ch → ℕ) : sProp 𝕄 :=
  iprop((bigSep Finset.univ fun p : Dev nD × Ch => cellInv ER (Rd X) (K p) (cell p.1 p.2))
    ∗ (bigSep Finset.univ fun p : Dev nD × Ch => reached ER (cell p.1 p.2) 0) ∗ levAts L lv)

instance (K : Dev nD × Ch → ℕ) : BI.Persistent (records X K) := by unfold records; infer_instance

theorem records_inv (K : Dev nD × Ch → ℕ) (c : Dev nD) (x : Ch) :
    records X K ⊢ cellInv ER (Rd X) (K (c, x)) (cell c x) := by
  unfold records
  iintro ⟨H, -, -⟩
  ihave H := (show iprop(bigSep Finset.univ fun p : Dev nD × Ch => cellInv ER (Rd X) (K p) (cell p.1 p.2)) ⊢ cellInv ER (Rd X) (K (c, x)) (cell c x)
    from bigSep_elim (Finset.mem_univ (c, x))) $$ H
  iexact H
theorem records_reached (K : Dev nD × Ch → ℕ) (c : Dev nD) (x : Ch) :
    records X K ⊢ reached ER (cell c x) 0 := by
  unfold records
  iintro ⟨-, H, -⟩
  ihave H := (show iprop(bigSep Finset.univ fun p : Dev nD × Ch => reached ER (cell p.1 p.2) 0) ⊢ (reached ER (cell c x) 0 : sProp 𝕄)
    from bigSep_elim (Finset.mem_univ (c, x))) $$ H
  iexact H
theorem records_order (K : Dev nD × Ch → ℕ) : records X K ⊢ levAts L lv := by
  unfold records
  iintro ⟨-, -, H⟩; iexact H

/-- What the device owes while the arrivals of a list are still to be brought about. -/
def Ow (c : Dev nD) (l : List Due) : sProp 𝕄 := iprop(∃ W, owes (c : Thread nD τ) (owed c l) W)

end Own

/-- Running `P` on device `c` ends in `Q`. -/
abbrev Runs (c : Dev nD) (P : PG F) (Q : PUnit → sProp 𝕄) : sProp 𝕄 :=
  wp frame (wpE (defs₀ (F := F)) 𝒱₀ (c : Thread nD τ) none) Set.univ P Q

theorem runs_nil {α : Type} (c : Dev nD) (step : α → PG F) (Q : PUnit → sProp 𝕄) : Q ⟨⟩ ⊢ Runs c (forP step []) Q := by
  unfold Runs forP
  iintro H
  rw [wp_ret]; imodintro; iexact H
theorem runs_bind (c : Dev nD) (P P' : PG F) (Q : PUnit → sProp 𝕄) :
    Runs c (P >>= fun _ => P') Q = Runs c P fun _ => Runs c P' Q := wp_bind _ _ _ _ _ _
theorem runs_cons {α : Type} (c : Dev nD) (step : α → PG F) (a : α) (l : List α) (Q : PUnit → sProp 𝕄) :
    Runs c (forP step (a :: l)) Q = Runs c (step a) fun _ => Runs c (forP step l) Q := runs_bind c _ _ Q

section Run
variable (X : Dev nD → S8192x1024.Idx → Elt F .f32) (K : Dev nD × Ch → ℕ) (c : Dev nD)

/-- A move does what the ledger says of it. -/
def Sound (o : Op) : Prop :=
  ∀ l l', pay o l = some l' → ∀ Q : PUnit → sProp 𝕄,
    iprop(records X K ∗ bigSepL (pre o) (own X c) ∗ Ow c l)
      ⊢ iprop((iprop(bigSepL (post o) (own X c) ∗ Ow c l') -∗ Q ⟨⟩) -∗ Runs c (opP c o) Q)

theorem bigSepL_erase {S : List Atom} {a : Atom} (h : a ∈ S) (Φ : Atom → sProp 𝕄) :
    bigSepL S Φ ⊢ iprop(Φ a ∗ bigSepL (S.erase a) Φ) := by
  induction S with
  | nil => exact absurd h (List.not_mem_nil)
  | cons b S ih =>
    by_cases hb : b = a
    · subst hb; rw [List.erase_cons_head, bigSepL_cons']
    · rw [List.erase_cons_tail (by simpa using hb), bigSepL_cons', bigSepL_cons']
      have h' : a ∈ S := (List.mem_cons.1 h).resolve_left fun e => hb e.symm
      iintro ⟨Hb, HS⟩
      ihave H := (ih h') $$ HS
      icases H with ⟨Ha, HS⟩
      isplitl [Ha]; · iexact Ha
      isplitl [Hb] <;> iassumption

theorem take_sound (Φ : Atom → sProp 𝕄) : ∀ (p S S' : List Atom), take p S = some S' →
    bigSepL S Φ ⊢ iprop(bigSepL p Φ ∗ bigSepL S' Φ)
  | [], S, S', h => by
    cases h
    rw [bigSepL_nil']
    iintro H
    isplitr; · iempintro
    iexact H
  | a :: p, S, S', h => by
    unfold take at h
    by_cases ha : a ∈ S
    · rw [if_pos ha] at h
      rw [bigSepL_cons']
      iintro H
      ihave H := (bigSepL_erase ha Φ) $$ H
      icases H with ⟨Ha, HS⟩
      ihave H := (take_sound Φ p _ _ h) $$ HS
      icases H with ⟨Hp, HS⟩
      isplitl [Ha Hp]
      · isplitl [Ha] <;> iassumption
      iexact HS
    · rw [if_neg ha] at h; exact absurd h (by simp)

/-- A run of sound moves does what the ledger says of it. -/
theorem run_sound : ∀ (os : List Op) (S S' : List Atom) (l l' : List Due), (∀ o ∈ os, Sound X K c o) →
    run os S l = some (S', l') → ∀ Q : PUnit → sProp 𝕄,
    iprop(records X K ∗ bigSepL S (own X c) ∗ Ow c l)
      ⊢ iprop((iprop(bigSepL S' (own X c) ∗ Ow c l') -∗ Q ⟨⟩) -∗ Runs c (forP (opP c) os) Q)
  | [], S, S', l, l', hs, h, Q => by
    cases h
    iintro ⟨-, H⟩
    iintro HQ
    iapply runs_nil
    iapply HQ; iexact H
  | o :: os, S, S', l, l', hs, h, Q => by
    unfold run at h
    split at h
    · rename_i S₁ l₁ hS₁ hl₁
      iintro ⟨#HR, HS, HO⟩
      iintro HQ
      ihave HS := (take_sound (own X c) _ _ _ hS₁) $$ HS
      icases HS with ⟨Hp, HS⟩
      rw [runs_cons]
      iapply (hs o List.mem_cons_self l l₁ hl₁ _) $$ [Hp HO]
      · isplitr; · iexact HR
        isplitl [Hp] <;> iassumption
      iintro ⟨Hp, HO⟩
      iapply (run_sound os _ _ _ _ (fun o' h' => hs o' (List.mem_cons_of_mem _ h')) h Q) $$ [Hp HS HO]
      · isplitr; · iexact HR
        isplitr [HO]
        · rw [bigSepL_append]
          isplitl [Hp] <;> iassumption
        · iexact HO
      iexact HQ
    · exact absurd h (by simp)

/-- The body of the kernel: from what the device holds at first to what it holds at last. -/
theorem main_sound (hs : ∀ o, Sound X K c o) (Q : PUnit → sProp 𝕄) :
    iprop(records X K ∗ bigSepL atoms₀ (own X c) ∗ Ow c dues)
      ⊢ iprop((iprop(bigSepL atoms₁ (own X c) ∗ Ow c []) -∗ Q ⟨⟩) -∗ Runs c (mainP c) Q) := by
  have h := ledger_ok
  rw [Option.bind_eq_some_iff] at h
  obtain ⟨⟨S', l'⟩, h₁, h₂⟩ := h
  dsimp only at h₂
  split at h₂
  · rename_i hl
    subst hl
    rw [mainP_eq]
    iintro H
    iintro HQ
    iapply (run_sound X K c moves atoms₀ S' dues [] (fun o _ => hs o) h₁ Q) $$ H
    iintro ⟨HS, HO⟩
    iapply HQ
    isplitr [HO]
    · ihave H := (take_sound (own X c) _ _ _ h₂) $$ HS
      icases H with ⟨H, -⟩; iexact H
    · iexact HO
  · exact absurd h₂ (by simp)

end Run

end Cert.KernelIdeal.Hop

end
-- ==== Proof.Rules.lean ====
/-
# The rules the moves rest on

One rule for each kind of step: a wait for the one arrival of a round, a wait for one of several
departures on a road, a copy on the device itself, a transfer to a neighbour. Each is stated over
the cells it uses, not over the numbers of semaphores.
-/
module

public import proofs.«01_k».proof.Proof.Holdings

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Rules
variable (X : Dev nD → S8192x1024.Idx → Elt F .f32) (K : Dev nD × Ch → ℕ) (c : Dev nD)

/-! ## Waits -/

/-- Wait for the one arrival of a round. -/
theorem step_wait (x : Ch) (r : ℕ) {s : DmaSem sig} {sp sp' : Space} {S S' : Shape} {e e' : EltTy}
    {from_ : Memref sig .tc sp S e} {to_ : Memref sig .tc sp' S' e'} {h₁ : from_.view.WordExact} {h₂ : to_.view.WordExact}
    (hx : x.sem = .dma s) (hamt : to_.view.dmaCredit = amountC x r) (hd : dutiesC x r = {0})
    {l : List Due} (hlv : ∀ p ∈ l, lvC x < lvC p.x) (Q : PUnit → sProp 𝕄) :
    iprop(records X K ∗ cred (tallyAt (cell c x) () (amountC x r)) ∗ posH c x r ∗ Ow c l)
      ⊢ iprop((iprop(payC X c x r 0 ∗ posH c x (r + 1) ∗ Ow c l) -∗ Q ⟨⟩)
        -∗ Runs c (Prog.lift (.waitDma2 s from_ to_ h₁ h₂)) Q) := by
  unfold posH Ow
  iintro ⟨#HR, Hc, ⟨Hat, -⟩, ⟨%W, HO⟩⟩
  iintro HQ
  iapply (Rounds.wp_wait_rest_token 𝒱₀ ER (Rd X) (c : Thread nD τ) none (κ := K (c, x)) (sm := x.sem)
      (by rw [hx, ← hamt]; exact wpE_waitDma2_eq 𝒱₀ (c : Thread nD τ) none Set.univ) (Set.mem_univ _) () (O := owed c l) (W := W) (R := r) (m := 0) (T := ∅)
      (show 0 + amountC x r = (Rd X).expect (cell c x) r by rw [expect_cell, hd, Finset.card_singleton, one_mul, Nat.zero_add])) $$ [Hc Hat HO]
  · isplitr; · iapply (records_inv X K c x); iexact HR
    isplitl [Hc]; · iexact Hc
    isplitl [HO]; · iexact HO
    isplitr
    · iapply (mayWait c x l hlv); iapply (records_order X K); iexact HR
    iexact Hat
  iintro ⟨HO, Hat, Hr, Hpay⟩
  ihave Hpay := (Entails.of_eq (show (bigSep ((Rd X).duties (cell c x) r \ ∅) fun d => (Rd X).payload (cell c x) r d) = payC X c x r 0 by
    rw [Finset.sdiff_empty, duties_cell, hd, bigSep_singleton, payload_cell])) $$ Hpay
  rw [wp_ret]; imodintro
  iapply HQ
  isplitl [Hpay]; · iexact Hpay
  isplitl [Hat Hr]
  · isplitl [Hat] <;> iassumption
  iexists _; iexact HO

/-- Wait for the neighbours' three handshakes. -/
theorem step_meet {l : List Due} (hlv : ∀ p ∈ l, lvC .ready < lvC p.x) (Q : PUnit → sProp 𝕄) :
    iprop(records X K ∗ cred (tallyAt (cell c .ready) () 3) ∗ posH c .ready 0 ∗ Ow c l)
      ⊢ iprop((iprop((bigSep (dutiesC .ready 0) fun d => payC X c .ready 0 d) ∗ posH c .ready 1 ∗ Ow c l) -∗ Q ⟨⟩)
        -∗ Runs c (semWaitWord bar 3#32) Q) := by
  unfold posH Ow semWaitWord
  iintro ⟨#HR, Hc, ⟨Hat, -⟩, ⟨%W, HO⟩⟩
  iintro HQ
  iapply (Rounds.wp_wait_rest_token 𝒱₀ ER (Rd X) (c : Thread nD τ) none (κ := K (c, .ready)) (sm := Ch.sem .ready)
      (wpE_semWait_eq 𝒱₀ (c : Thread nD τ) none Set.univ) (Set.mem_univ _) () (O := owed c l) (W := W) (R := 0) (m := 0) (T := ∅)
      (show 0 + _ = (Rd X).expect (cell c .ready) 0 by rw [expect_cell]; decide)) $$ [Hc Hat HO]
  · isplitr; · iapply (records_inv X K c .ready); iexact HR
    isplitl [Hc]; · iexact Hc
    isplitl [HO]; · iexact HO
    isplitr
    · iapply (mayWait c .ready l hlv); iapply (records_order X K); iexact HR
    iexact Hat
  iintro ⟨HO, Hat, Hr, Hpay⟩
  ihave Hpay := (Entails.of_eq (show (bigSep ((Rd X).duties (cell c .ready) 0 \ ∅) fun d => (Rd X).payload (cell c .ready) 0 d)
      = bigSep (dutiesC .ready 0) fun d => payC X c .ready 0 d by
    rw [Finset.sdiff_empty, duties_cell]; exact bigSep_congr fun d _ => payload_cell X c .ready 0 d)) $$ Hpay
  rw [wp_ret]; imodintro
  iapply HQ
  isplitl [Hpay]; · iexact Hpay
  isplitl [Hat Hr]
  · isplitl [Hat] <;> iassumption
  iexists _; iexact HO

/-- Wait for the last departure on a road: everything lent to it has come back. -/
theorem step_last (a : Fin 3) (j : ℕ) {s : DmaSem sig} {sp sp' : Space} {S S' : Shape} {e e' : EltTy}
    {from_ : Memref sig .tc sp S e} {to_ : Memref sig .tc sp' S' e'} {h₁ : from_.view.WordExact} {h₂ : to_.view.WordExact}
    (hx : (Ch.fwd a).sem = .dma s) (hamt : to_.view.dmaCredit = N) (hj : (dutiesC (.fwd a) 0).card = j + 1)
    {l : List Due} (hlv : ∀ p ∈ l, lvC (.fwd a) < lvC p.x) (Q : PUnit → sProp 𝕄) :
    iprop(records X K ∗ cred (tallyAt (cell c (.fwd a)) () N) ∗ partH X c a j ∗ Ow c l)
      ⊢ iprop((iprop((bigSep (dutiesC (.fwd a) 0) fun d => fwdPay X c a d) ∗ posH c (.fwd a) 1 ∗ Ow c l) -∗ Q ⟨⟩)
        -∗ Runs c (Prog.lift (.waitDma2 s from_ to_ h₁ h₂)) Q) := by
  unfold posH Ow partH
  iintro ⟨#HR, Hc, ⟨%T, %hT, Hat, HT⟩, ⟨%W, HO⟩⟩
  iintro HQ
  iapply (Rounds.wp_wait_rest_token 𝒱₀ ER (Rd X) (c : Thread nD τ) none (κ := K (c, .fwd a)) (sm := (Ch.fwd a).sem) (k' := N)
      (by rw [hx, ← hamt]; exact wpE_waitDma2_eq 𝒱₀ (c : Thread nD τ) none Set.univ) (Set.mem_univ _) () (O := owed c l) (W := W) (R := 0) (m := j * N) (T := T)
      (show j * N + N = (Rd X).expect (cell c (.fwd a)) 0 by rw [expect_cell, hj]; exact (Nat.succ_mul j N).symm)) $$ [Hc Hat HO]
  · isplitr; · iapply (records_inv X K c (.fwd a)); iexact HR
    isplitl [Hc]; · iexact Hc
    isplitl [HO]; · iexact HO
    isplitr
    · iapply (mayWait c (.fwd a) l hlv); iapply (records_order X K); iexact HR
    iexact Hat
  iintro ⟨HO, Hat, Hr, Hpay⟩
  ihave Hpay := (Entails.of_eq (show (bigSep ((Rd X).duties (cell c (.fwd a)) 0 \ T) fun d => (Rd X).payload (cell c (.fwd a)) 0 d)
      = bigSep (dutiesC (.fwd a) 0 \ T) fun d => fwdPay X c a d by
    rw [duties_cell]; exact bigSep_congr fun d _ => payload_cell X c (.fwd a) 0 d)) $$ Hpay
  rw [wp_ret]; imodintro
  iapply HQ
  isplitl [Hpay HT]
  · rw [show (bigSep (dutiesC (.fwd a) 0) fun d => fwdPay X c a d)
        = iprop((bigSep T fun d => fwdPay X c a d) ∗ bigSep (dutiesC (.fwd a) 0 \ T) fun d => fwdPay X c a d) from
      bigSep_sdiff_split hT]
    isplitl [HT] <;> iassumption
  isplitl [Hat Hr]
  · isplitl [Hat] <;> iassumption
  iexists _; iexact HO

/-- Wait for a departure on a road before the last. -/
theorem step_part (a : Fin 3) (j : ℕ) {s : DmaSem sig} {sp sp' : Space} {S S' : Shape} {e e' : EltTy}
    {from_ : Memref sig .tc sp S e} {to_ : Memref sig .tc sp' S' e'} {h₁ : from_.view.WordExact} {h₂ : to_.view.WordExact}
    (hx : (Ch.fwd a).sem = .dma s) (hamt : to_.view.dmaCredit = N)
    {l : List Due} (hlv : ∀ p ∈ l, lvC (.fwd a) < lvC p.x) (Q : PUnit → sProp 𝕄) :
    iprop(records X K ∗ cred (tallyAt (cell c (.fwd a)) () N) ∗ partH X c a j ∗ Ow c l)
      ⊢ iprop((iprop(partH X c a (j + 1) ∗ Ow c l) -∗ Q ⟨⟩)
        -∗ Runs c (Prog.lift (.waitDma2 s from_ to_ h₁ h₂)) Q) := by
  unfold Ow partH
  iintro ⟨#HR, Hc, ⟨%T, %hT, Hat, HT⟩, ⟨%W, HO⟩⟩
  iintro HQ
  iapply (Rounds.wp_wait 𝒱₀ ER (Rd X) (c : Thread nD τ) none (κ := K (c, .fwd a)) (sm := (Ch.fwd a).sem) (k' := N)
      (by rw [hx, ← hamt]; exact wpE_waitDma2_eq 𝒱₀ (c : Thread nD τ) none Set.univ) (Set.mem_univ _)
      (cr := Finsupp.single () N) (O := owed c l) (W := W) {((Ch.fwd a).sem, ())} (R := 0) (m := j * N) (T := T)
      (Util.total_single _ _) (image_single_subset (Ch.fwd a).sem () N)) $$ [Hc Hat HO]
  · isplitr; · iapply (records_inv X K c (.fwd a)); iexact HR
    isplitl [Hc]; · iexact Hc
    isplitl [HO]; · iexact HO
    isplitr
    · iapply (mayWait c (.fwd a) l hlv); iapply (records_order X K); iexact HR
    iexact Hat
  iintro %S' ⟨%hS, HO, Hat, Hpay⟩
  obtain ⟨hTS, hSd, -⟩ := hS
  have hSd' : S' ⊆ dutiesC (.fwd a) 0 := by
    have h := hSd; rw [show (Rd X).duties ((c : Thread nD τ), (Ch.fwd a).sem) 0 = dutiesC (.fwd a) 0 from duties_cell X c (.fwd a) 0] at h; exact h
  ihave Hpay := (Entails.of_eq (show (bigSep (S' \ T) fun d => (Rd X).payload (cell c (.fwd a)) 0 d)
      = bigSep (S' \ T) fun d => fwdPay X c a d from bigSep_congr fun d _ => payload_cell X c (.fwd a) 0 d)) $$ Hpay
  rw [wp_ret]; imodintro
  iapply HQ
  isplitr [HO]
  · iexists S'
    isplitr; · ipureintro; exact hSd'
    isplitl [Hat]
    · rw [show (j + 1) * N = j * N + N from Nat.succ_mul j N]; iexact Hat
    rw [show (bigSep S' fun d => fwdPay X c a d)
        = iprop((bigSep T fun d => fwdPay X c a d) ∗ bigSep (S' \ T) fun d => fwdPay X c a d) from bigSep_sdiff_split hTS]
    isplitl [HT] <;> iassumption
  iexists _; iexact HO

/-! ## The handshake -/

/-- Tell the neighbour in direction `a` that its chunks may come, lending it their rows. -/
theorem step_ready (a : Fin 3) {l : List Due} (Q : PUnit → sProp 𝕄) :
    iprop(records X K ∗ payC X (nb a c) .ready 0 (dOf a) ∗ dutyTok ER (cell (nb a c) .ready) 0 (dOf a)
        ∗ Ow c (⟨a, .ready, dOf a⟩ :: l))
      ⊢ iprop((Ow c l -∗ Q ⟨⟩) -∗ Runs c (readyP c a) Q) := by
  unfold Ow readyP semSignalWord
  rw [nbD_eq]
  iintro ⟨#HR, Hpay, Ht, ⟨%W, HO⟩⟩
  iintro HQ
  iapply (Rounds.wp_signal 𝒱₀ ER (Rd X) (c : Thread nD τ) none (dst := (nb a c : Thread nD τ)) (κ := K (nb a c, .ready))
      (r := 0) (d := dOf a)
      (show dOf a ∈ (Rd X).duties (cell (nb a c) .ready) 0 by rw [duties_cell]; revert a; decide)
      ((amount_cell X (nb a c) .ready 0 (dOf a)).trans (by decide)) () (owed c l) rfl) $$ [HO Ht Hpay]
  · isplitr; · iapply (records_inv X K (nb a c) .ready); iexact HR
    isplitl [HO]; · iexact HO
    isplitl [Ht]; · iexact Ht
    isplitl [Hpay]
    · iapply (show payC X (nb a c) .ready 0 (dOf a) ⊢ (Rd X).payload ((nb a c : Thread nD τ), SemLoc.reg bar) 0 (dOf a)
        from Entails.of_eq (payload_cell X (nb a c) .ready 0 (dOf a)).symm)
      iexact Hpay
    · iapply (records_reached X K (nb a c) .ready); iexact HR
  iintro HO
  rw [wp_ret]; imodintro
  iapply HQ
  iexists W; iexact HO

/-! ## Transfers -/

/-- A copy on the device: what the two references hold after it is what the arrival hands over. -/
theorem step_copy (x : Ch) (r : ℕ) {sp sp' : Space} {S : Shape} {e : EltTy} {s : DmaSem sig}
    {from_ : Memref sig .tc sp S e} {to_ : Memref sig .tc sp' S e} {h₁ : from_.view.WordExact} {h₂ : to_.view.WordExact}
    {h₃ : DmaTarget.Typed sp (.dma s) (.here to_ : DmaTarget nD τ sig .tc sp' S e)} (hx : x.sem = .dma s)
    (hamt : to_.view.dmaCredit = amountC x r) (hd : dutiesC x r = {0}) {q : PosShare TreeShare}
    (fs : Buf (Elt F) (from_.view.loc (c : Thread nD τ))) (fd : Buf (Elt F) (to_.view.loc (c : Thread nD τ)))
    (hpay : iprop((to_.view.loc (c : Thread nD τ) ↦[to_.view.set]{fullShare} (to_.view.write (Elt F) fd (from_.view.read (Elt F) fs) Finset.univ))
      ∗ (from_.view.loc (c : Thread nD τ) ↦[from_.view.set]{q} fs)) ⊢ payC X c x r 0) (Q : PUnit → sProp 𝕄) :
    iprop(records X K ∗ (from_.view.loc (c : Thread nD τ) ↦[from_.view.set]{q} fs) ∗ (to_.view.loc (c : Thread nD τ) ↦[to_.view.set]{fullShare} fd)
        ∗ dutyTok ER (cell c x) r 0 ∗ reached ER (cell c x) r)
      ⊢ iprop((cred (tallyAt (cell c x) () (amountC x r)) -∗ Q ⟨⟩)
        -∗ Runs c (Prog.lift (.enqueueDma from_ (.here to_) (.dma s) h₁ h₂ h₃)) Q) := by
  have hc : cell c x = ((c : Thread nD τ), SemLoc.dma s) := Prod.ext rfl hx
  have hi := records_inv X K c x
  have hd' : (0 : D) ∈ (Rd X).duties (cell c x) r := by rw [duties_cell, hd]; exact Finset.mem_singleton_self _
  have ha := amount_cell X c x r 0
  rw [← payload_cell X c x r 0] at hpay
  rw [hc] at hi hd' ha hpay ⊢
  iintro ⟨#HR, Hs, Hd, Ht, Hr⟩
  iintro HQ
  iapply (Rounds.wp_copy_pointsTo 𝒱₀ ER (Rd X) (c : Thread nD τ) none (κ := K (c, x)) hd' () (amountC x r) hamt ha hpay) $$ [Hs Hd Ht Hr]
  · isplitr; · iapply hi; iexact HR
    isplitl [Hs]; · iexact Hs
    isplitl [Hd]; · iexact Hd
    isplitl [Ht]; · iexact Ht
    iexact Hr
  iintro Hc
  rw [wp_ret]; imodintro
  iapply HQ; iexact Hc

/-- A transfer to the neighbour in direction `a`. -/
theorem step_send (a : Fin 3) (x y : Ch) (r : ℕ) (d d' : D) {sp sp' : Space} {S : Shape} {e : EltTy} {sS sR : DmaSem sig} {n : Dev nD} (hn : n = nb a c)
    {from_ : Memref sig .tc sp S e} {to_ : Memref sig (Dev.tc n : Thread nD τ).2.kind sp' S e} {h₁ : from_.view.WordExact} {h₂ : to_.view.WordExact}
    {hsc : to_.view.ref.isScScratch = false}
    {h₃ : DmaTarget.Typed sp (.dma sR) (.remote (Dev.tc n : Thread nD τ) to_ (.dma sS) hsc : DmaTarget nD τ sig .tc sp' S e)}
    (hx : x.sem = .dma sS) (hy : y.sem = .dma sR)
    (hamt : to_.view.dmaCredit = N) (hdx : d ∈ dutiesC x r) (hdy : d' ∈ dutiesC y 0) (hax : amountC x r = N) (hay : amountC y 0 = N)
    {q : PosShare TreeShare}
    (fs : Buf (Elt F) (from_.view.loc (c : Thread nD τ))) (fd : Buf (Elt F) (to_.view.loc (n : Thread nD τ))) (l : List Due)
    (hpayx : (from_.view.loc (c : Thread nD τ) ↦[from_.view.set]{q} fs) ⊢ payC X c x r d)
    (hpayy : (to_.view.loc (n : Thread nD τ) ↦[to_.view.set]{fullShare} (to_.view.write (Elt F) fd (from_.view.read (Elt F) fs) Finset.univ))
      ⊢ payC X n y 0 d') (Q : PUnit → sProp 𝕄) :
    iprop(records X K ∗ (from_.view.loc (c : Thread nD τ) ↦[from_.view.set]{q} fs) ∗ (to_.view.loc (n : Thread nD τ) ↦[to_.view.set]{fullShare} fd)
        ∗ Ow c (⟨a, y, d'⟩ :: l) ∗ dutyTok ER (cell c x) r d ∗ reached ER (cell c x) r ∗ dutyTok ER (cell (nb a c) y) 0 d')
      ⊢ iprop((iprop(cred (tallyAt (cell c x) () (amountC x r)) ∗ Ow c l) -∗ Q ⟨⟩)
        -∗ Runs c (Prog.lift (.enqueueDma from_ (.remote (Dev.tc n : Thread nD τ) to_ (.dma sS) hsc) (.dma sR) h₁ h₂ h₃)) Q) := by
  have hcx : cell c x = ((c : Thread nD τ), SemLoc.dma sS) := Prod.ext rfl hx
  have hcy : cell n y = ((n : Thread nD τ), SemLoc.dma sR) := Prod.ext rfl hy
  have hix := records_inv X K c x
  have hiy := records_inv X K n y
  have hry := records_reached X K n y
  have hdx' : d ∈ (Rd X).duties (cell c x) r := by rw [duties_cell]; exact hdx
  have hdy' : d' ∈ (Rd X).duties (cell n y) 0 := by rw [duties_cell]; exact hdy
  have hax' := amount_cell X c x r d
  have hay' := amount_cell X n y 0 d'
  have hO : owed c (⟨a, y, d'⟩ :: l) = owed c l + tallyAt (cell n y) () N := by rw [hn, ← hay]; rfl
  rw [← payload_cell X c x r d] at hpayx
  rw [← payload_cell X n y 0 d'] at hpayy
  unfold Ow
  rw [← hn]
  rw [hcx] at hix hdx' hax' hpayx ⊢
  rw [hcy] at hiy hry hdy' hay' hpayy hO ⊢
  rw [hax] at hax' ⊢
  rw [hay] at hay'
  iintro ⟨#HR, Hs, Hd, ⟨%W, HO⟩, Hx, Hr, Hy⟩
  iintro HQ
  iapply (Rounds.wp_send_pointsTo 𝒱₀ ER (Rd X) (c : Thread nD τ) none (κ₁ := K (c, x)) (κ₂ := K (n, y))
    (r₁ := r) (r₂ := 0) (d₁ := d) (d₂ := d') (fd := fd) hdx' hdy' () () N hamt hax' hay' (owed c l) hO (W := W) hpayx hpayy) $$ [Hs Hd HO Hx Hr Hy]
  · isplitr; · iapply hix; iexact HR
    isplitr; · iapply hiy; iexact HR
    isplitl [Hs]; · iexact Hs
    isplitl [Hd]; · iexact Hd
    isplitl [HO]; · iexact HO
    isplitl [Hx]; · iexact Hx
    isplitl [Hr]; · iexact Hr
    isplitl [Hy]; · iexact Hy
    iapply hry; iexact HR
  iintro ⟨Hc, HO⟩
  rw [wp_ret]; imodintro
  iapply HQ
  isplitl [Hc]; · iexact Hc
  iexists W; iexact HO

end Rules

end Cert.KernelIdeal.Hop

end
-- ==== Proof.Contents.lean ====
/-
# What the transfers and the stores leave in the buffers

Each lemma says that after a copy, or after values have been stored, a part of a buffer holds what
the protocol promises of it.
-/
module

public import proofs.«01_k».proof.Proof.Rules

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- What holds at every point of a rectangle holds on its set. -/
theorem on_rect {s : Shape} (r : Rect s) {P : s.Idx → Prop} (h : ∀ t, P (r.emb t)) : ∀ i ∈ r.set, P i := by
  intro i hi
  rw [← Rect.map_emb_univ] at hi
  obtain ⟨t, -, rfl⟩ := Finset.mem_map.1 hi
  exact h t

theorem lRect_emb (q : Quart) (c : Dev nD) (k : Fin 8) (t : S256x1024.Idx) : (lRect q c k).emb t = (mRect q c k).emb t := by
  funext a
  exact Fin.ext (congrArg (· + _) (congrFun ((lOff_eq q c k).trans (mOff_eq q c k).symm) a))

/-! ## Copies -/

/-- A chunk of the receive buffer, overwritten with `w`. -/
theorem rem_written (q : Quart) (c : Dev nD) (k : Fin 8) (fd g : S8192x1024.Idx → Elt F .bf16) (w : S256x1024.Idx → Elt F .bf16)
    (h : ∀ t, w t = g ((mRect q c k).emb t)) : ∀ i ∈ cset (ch q c k), (remC q c k).view.write (Elt F) fd w Finset.univ i = g i := by
  rw [← mRect_set]
  exact on_rect _ fun t => (View.write_emb_of_mem (v := (remC q c k).view) fd w (Finset.mem_univ t)).trans (h t)
theorem out_written (q : Quart) (c : Dev nD) (k : Fin 8) (fd g : S8192x1024.Idx → Elt F .bf16) (w : S256x1024.Idx → Elt F .bf16)
    (h : ∀ t, w t = g ((mRect q c k).emb t)) : ∀ i ∈ cset (ch q c k), (outC q c k).view.write (Elt F) fd w Finset.univ i = g i := by
  rw [← mRect_set]
  exact on_rect _ fun t => (View.write_emb_of_mem (v := (outC q c k).view) fd w (Finset.mem_univ t)).trans (h t)
theorem loc_written (q : Quart) (c : Dev nD) (k : Fin 8) (fd g : S8192x1024.Idx → Elt F .f32) (w : S256x1024.Idx → Elt F .f32)
    (h : ∀ t, w t = g ((mRect q c k).emb t)) : ∀ i ∈ cset (ch q c k), (locC q c k).view.write (Elt F) fd w Finset.univ i = g i := by
  rw [← mRect_set]
  exact on_rect _ fun t => (View.write_emb_of_mem (v := (locC q c k).view) fd w (Finset.mem_univ t)).trans (h t)
theorem locB_written (b : Fin 3) (c : Dev nD) (fd g : S8192x1024.Idx → Elt F .f32) (w : S2048x1024.Idx → Elt F .f32)
    (h : ∀ t, w t = g ((bRect b c).emb t)) : ∀ i ∈ bset (quart (bQ b) c), (locB b c).view.write (Elt F) fd w Finset.univ i = g i := by
  rw [← bRect_set]
  exact on_rect _ fun t => (View.write_emb_of_mem (v := (locB b c).view) fd w (Finset.mem_univ t)).trans (h t)

section Contents
variable (X : Dev nD → S8192x1024.Idx → Elt F .f32) (c : Dev nD)

/-- A chunk of the own quarter fetched. -/
theorem fetch_pay (k : Fin 8) (fd : S8192x1024.Idx → Elt F .f32) :
    iprop(((locC .own c k).view.loc (c : Thread nD τ) ↦[(locC .own c k).view.set]{fullShare}
          ((locC .own c k).view.write (Elt F) fd ((xC .own c k).view.read (Elt F) (X c)) Finset.univ))
        ∗ ((xC .own c k).view.loc (c : Thread nD τ) ↦[(xC .own c k).view.set]{fullShare} (X c)))
      ⊢ payC X c (.fetch k) 0 0 := by
  show _ ⊢ iprop(xH X c k ∗ locH X c .own k)
  unfold xH locH
  rw [locC_set, xC_set]
  iintro ⟨Hl, Hx⟩
  isplitl [Hx]; · iexact Hx
  ihave Hl := (Entails.of_eq (pointsTo_congr (loc_written .own c k fd (X c) _ fun t => rfl))) $$ Hl
  iexact Hl

/-- Another quarter fetched. -/
theorem bulk_pay (b : Fin 3) (fd : S8192x1024.Idx → Elt F .f32) :
    iprop(((locB b c).view.loc (c : Thread nD τ) ↦[(locB b c).view.set]{fullShare}
          ((locB b c).view.write (Elt F) fd ((xB b c).view.read (Elt F) (X c)) Finset.univ))
        ∗ ((xB b c).view.loc (c : Thread nD τ) ↦[(xB b c).view.set]{fullShare} (X c)))
      ⊢ payC X c (.bulk b) 0 0 := by
  show _ ⊢ iprop(xbH X c b ∗ locbH X c b)
  unfold xbH locbH
  rw [locB_set, xB_set]
  iintro ⟨Hl, Hx⟩
  isplitl [Hx]; · iexact Hx
  ihave Hl := (Entails.of_eq (pointsTo_congr (locB_written b c fd (X c) _ fun t => rfl))) $$ Hl
  iexact Hl

/-- A chunk sent to device `n`, when it holds what `n` is to receive there. -/
theorem rem_pay (n : Dev nD) (q : Quart) (k : Fin 8) (fd : S8192x1024.Idx → Elt F .bf16) (w : S256x1024.Idx → Elt F .bf16)
    (h : ∀ t, w t = remV X n ((mRect q c k).emb t)) :
    ((remC q c k).view.loc (n : Thread nD τ) ↦[(remC q c k).view.set]{fullShare} ((remC q c k).view.write (Elt F) fd w Finset.univ))
      ⊢ remP n (cset (ch q c k)) fullShare (remV X n) := by
  rw [remC_set]
  iintro H
  ihave H := (Entails.of_eq (pointsTo_congr (rem_written q c k fd (remV X n) w h))) $$ H
  iexact H

/-- What a device sends out of its own input is what the receiver is to hold. -/
theorem sent_eq (n : Dev nD) (q : Quart) (k : Fin 8) (h : src n (ch q c k) = c) (t : S256x1024.Idx) :
    sqHolds X c q k t = remV X n ((mRect q c k).emb t) := by
  unfold sqHolds remV; rw [row_emb, h]
/-- What it forwards is what the receiver is to hold. -/
theorem passed_eq (n : Dev nD) (q : Quart) (k : Fin 8) (h : src n (ch q c k) = src c (ch q c k)) (t : S256x1024.Idx) :
    remV X c ((mRect q c k).emb t) = remV X n ((mRect q c k).emb t) := by
  unfold remV; rw [row_emb, h]

/-! ## Values stored -/

theorem sq_sub (i : Fin 12) : (sqM.access (sqRect i)).set ⊆ sqset i := (View.set_slice_whole _ _).le
theorem os_sub (s : Fin 2) : (osM.access (osRect s)).set ⊆ osset s := (View.set_slice_whole _ _).le

/-- A chunk of the input is rounded into a place of the send buffer. -/
theorem step_pack (q : Quart) (k : Fin 8) (i : Fin 12) (Q : PUnit → sProp 𝕄) :
    iprop(locH X c q k ∗ sqAny c i)
      ⊢ iprop((iprop(locH X c q k ∗ ∃ f : S3072x1024.Idx → Elt F .bf16, ⌜(sqC i).view.read (Elt F) f = sqHolds X c q k⌝
            ∗ sqP c (sqset i) fullShare f) -∗ Q ⟨⟩) -∗ Runs c (packP c q k i) Q) := by
  unfold locH sqAny packP
  simp only [Prog.lift, Prog.bind_op, Prog.bind_ret]
  iintro ⟨Hl, ⟨%f, Hs⟩⟩
  iintro HQ
  iapply (wp_load_rect 𝒱₀ (c : Thread nD τ) none Set.univ (m := locM) (r := lRect q c k)
    (((View.set_slice_whole _ _).trans (lRect_set q c k)).le)) $$ Hl; iintro Hl
  iapply (wp_load_rect 𝒱₀ (c : Thread nD τ) none Set.univ (m := sqM) (r := sqRect i) (S := sqset i) (sq_sub i)) $$ Hs; iintro Hs
  iapply (wp_store 𝒱₀ (c : Thread nD τ) none Set.univ (m := sqM) (r := sqRect i) (Mk := Finset.univ) (S := sqset i) (sq_sub i)) $$ Hs; iintro Hs
  rw [wp_ret]; imodintro
  iapply HQ
  isplitl [Hl]; · iexact Hl
  iexists _
  isplitr
  rotate_left
  · iexact Hs
  ipureintro
  exact (View.read_write_univ (v := (sqC i).view) f _).trans
    (sendV_read X c q k fun t => congrArg (X c) (lRect_emb q c k t))

/-- What a slot of the staging buffer reads after a store. -/
theorem slot_read (s : Fin 2) (f : S2x256x1024.Idx → Elt F .bf16) (w : S1x256x1024.Idx → Elt F .bf16) (t : S256x1024.Idx)
    (h : S256x1024.numel = S1x256x1024.numel) :
    (osC s).view.read (Elt F) ((osM.access (osRect s)).write (Elt F) f w Finset.univ) t
      = w (Shape.reshapeEquiv h t) :=
  congrFun (View.read_write_univ (v := osM.access (osRect s)) f w) _

theorem chN_eq (c : Dev nD) (n : Fin 32) : chN c n.val = ch (emQ n) c (emK n) := by
  unfold chN; rw [show Fin.ofNat 32 n.val = n from Fin.ext (Nat.mod_eq_of_lt n.isLt)]

theorem slot_eq (n : Fin 32) : 2 * (n.val / 2) + (emS n).val = n.val := by
  show 2 * (n.val / 2) + n.val % 2 = n.val; omega

/-- A chunk of the result is summed into a slot. -/
theorem step_stage (n : Fin 32) (s : PosShare TreeShare) (P : PG F) (Q : PUnit → sProp 𝕄) :
    iprop(locH X c (emQ n) (emK n) ∗ remH X c (emQ n) (emK n) s ∗ osAny c (emS n))
      ⊢ iprop((iprop(locH X c (emQ n) (emK n) ∗ remH X c (emQ n) (emK n) s
            ∗ ∃ f : S2x256x1024.Idx → Elt F .bf16, ⌜∀ t, (osC (emS n)).view.read (Elt F) f t = osHolds X c (emQ n) (emK n) t⌝
              ∗ osP c (osset (emS n)) fullShare f) -∗ Runs c P Q)
        -∗ Runs c (
  Prog.lift (.load locM (lRect (emQ n) c (emK n)).toLoadRect (View.loadsAt_vmem h_S256x1024)) >>= fun v : Vec F S256x1024 .f32 =>
  Prog.lift (.load remM (lRect (emQ n) c (emK n)).toLoadRect (View.loadsAt_vmem h_S256x1024)) >>= fun w : Vec F S256x1024 .bf16 =>
  Prog.lift (.load osM (osRect (emS n)).toLoadRect (View.loadsAt_vmem h_S1x256x1024)) >>= fun _ : Vec F S1x256x1024 .bf16 =>
  Prog.lift (.store osM (osRect (emS n)) (sumV v w) Finset.univ (View.stores_vmem h_S1x256x1024 ((Memref.isWhole_whole cc0_scratch3).storeExact_slice rfl _ (os_packed (emS n))) (fun _ => rfl)) (.inl rfl)) >>= fun _ =>
  P) Q) := by
  unfold locH remH osAny
  simp only [Prog.lift, Prog.bind_op, Prog.bind_ret]
  iintro ⟨Hl, Hr, ⟨%f, Hs⟩⟩
  iintro HQ
  iapply (wp_load_rect 𝒱₀ (c : Thread nD τ) none Set.univ (m := locM) (r := lRect (emQ n) c (emK n))
    (((View.set_slice_whole _ _).trans (lRect_set (emQ n) c (emK n))).le)) $$ Hl; iintro Hl
  iapply (wp_load_rect 𝒱₀ (c : Thread nD τ) none Set.univ (m := remM) (r := lRect (emQ n) c (emK n))
    (((View.set_slice_whole _ _).trans (lRect_set (emQ n) c (emK n))).le)) $$ Hr; iintro Hr
  iapply (wp_load_rect 𝒱₀ (c : Thread nD τ) none Set.univ (m := osM) (r := osRect (emS n)) (S := osset (emS n)) (os_sub (emS n))) $$ Hs; iintro Hs
  iapply (wp_store 𝒱₀ (c : Thread nD τ) none Set.univ (m := osM) (r := osRect (emS n)) (Mk := Finset.univ) (S := osset (emS n)) (os_sub (emS n))) $$ Hs; iintro Hs
  iapply HQ
  isplitl [Hl]; · iexact Hl
  isplitl [Hr]; · iexact Hr
  iexists _
  isplitr
  rotate_left
  · iexact Hs
  ipureintro
  intro t
  refine (slot_read (emS n) f _ t squeezes_S1x256x1024_S256x1024.numel_eq).trans ?_
  exact sumV_read X c (emQ n) (emK n) (fun t => congrArg (X c) (lRect_emb _ c _ t)) (fun t => congrArg (remV X c) (lRect_emb _ c _ t)) t

/-- What a slot hands over when its writing is over. -/
theorem slot_pay (n : Fin 32) (fo : S8192x1024.Idx → Elt F .bf16) (f : S2x256x1024.Idx → Elt F .bf16)
    (hf : ∀ t, (osC (emS n)).view.read (Elt F) f t = osHolds X c (emQ n) (emK n) t) :
    iprop(((outC (emQ n) c (emK n)).view.loc (c : Thread nD τ) ↦[(outC (emQ n) c (emK n)).view.set]{fullShare}
          ((outC (emQ n) c (emK n)).view.write (Elt F) fo ((osC (emS n)).view.read (Elt F) f) Finset.univ))
        ∗ ((osC (emS n)).view.loc (c : Thread nD τ) ↦[(osC (emS n)).view.set]{fullShare} f))
      ⊢ payC X c (.out (emS n)) (n.val / 2) 0 := by
  show _ ⊢ iprop(outH X c (2 * (n.val / 2) + (emS n).val) ∗ osAny c (emS n))
  unfold outH osAny
  rw [slot_eq, osC_set, outC_set, chN_eq]
  iintro ⟨Ho, Hs⟩
  isplitl [Ho]
  · ihave Ho := (Entails.of_eq (pointsTo_congr (out_written (emQ n) c (emK n) fo (outV X c) _ hf))) $$ Ho
    iexact Ho
  · iexists f; iexact Hs

/-- A chunk of the result is summed into a slot, and the slot's writing begins. -/
theorem step_write (K : Dev nD × Ch → ℕ) (n : Fin 32) (s : PosShare TreeShare) (Q : PUnit → sProp 𝕄) :
    iprop(records X K ∗ locH X c (emQ n) (emK n) ∗ remH X c (emQ n) (emK n) s ∗ osAny c (emS n)
        ∗ (∃ f, outP (F := F) c (cset (chN c n.val)) fullShare f) ∗ dutyTok ER (cell c (.out (emS n))) (n.val / 2) 0
        ∗ reached ER (cell c (.out (emS n))) (n.val / 2))
      ⊢ iprop((iprop(locH X c (emQ n) (emK n) ∗ remH X c (emQ n) (emK n) s
            ∗ cred (tallyAt (cell c (.out (emS n))) () (amountC (.out (emS n)) (n.val / 2)))) -∗ Q ⟨⟩)
        -∗ Runs c (writeP c n) Q) := by
  have hos : (osC (emS n)).view.set = osset (emS n) := osC_set (emS n)
  have hout : (outC (emQ n) c (emK n)).view.set = cset (chN c n.val) := (outC_set _ _ _).trans (by rw [chN_eq])
  unfold writeP
  rw [← hout]
  iintro ⟨#HR, Hl, Hr, Hs, ⟨%fo, Ho⟩, Ht, Hre⟩
  iintro HQ
  iapply (step_stage X c n s _ Q) $$ [Hl Hr Hs]
  · isplitl [Hl]; · iexact Hl
    isplitl [Hr] <;> iassumption
  rw [← hos]
  iintro ⟨Hl, Hr, ⟨%f, %hf, Hs⟩⟩
  have hx : (Ch.out (emS n)).sem = .dma (dsem cc0_scratch15 (emS n)) := rfl
  have hd : dutiesC (.out (emS n)) (n.val / 2) = {0} := if_pos (by have := n.isLt; omega)
  have ha : (outC (emQ n) c (emK n)).view.dmaCredit = amountC (.out (emS n)) (n.val / 2) := amt_out (emQ n) c (emK n)
  iapply (step_copy X K c (.out (emS n)) (n.val / 2) (from_ := osC (emS n)) (to_ := outC (emQ n) c (emK n))
    (h₁ := osW (emS n)) (h₂ := outW c (emQ n) (emK n)) (h₃ := ⟨Or.inl rfl, trivial⟩) hx ha hd (q := fullShare) f fo (slot_pay X c n fo f hf) Q) $$ [Hs Ho Ht Hre]
  · isplitr; · iexact HR
    isplitl [Hs]; · iexact Hs
    isplitl [Ho]; · iexact Ho
    isplitl [Ht] <;> iassumption
  iintro Hc
  iapply HQ
  isplitl [Hl]; · iexact Hl
  isplitl [Hr]; · iexact Hr
  iexact Hc

end Contents

end Cert.KernelIdeal.Hop

end
-- ==== Proof.Moves.lean ====
/-
# Every move does what the ledger says of it

Each case names the rule for its kind of step and hands it what the ledger takes; what the rule
gives back is what the ledger gives.
-/
module

public import proofs.«01_k».proof.Proof.Contents

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Moves
variable (X : Dev nD → S8192x1024.Idx → Elt F .f32) (K : Dev nD × Ch → ℕ) (c : Dev nD)

/-! ## What `pay` allows -/

theorem pay_due {o : Op} {p : Due} (ho : dueOf o = some p) {l l' : List Due} (h : pay o l = some l') : l = p :: l' := by
  unfold pay at h
  rw [ho] at h
  cases l with
  | nil => exact absurd h (by simp)
  | cons p' l =>
    dsimp only at h
    by_cases hp : p' = p
    · rw [if_pos hp] at h; cases h; rw [hp]
    · rw [if_neg hp] at h; exact absurd h (by simp)

theorem pay_wait {o : Op} {x : Ch} (ho : dueOf o = none) (hw : waitOf o = some x) {l l' : List Due} (h : pay o l = some l') :
    l = l' ∧ ∀ p ∈ l', lvC x < lvC p.x := by
  unfold pay at h
  rw [ho, hw] at h
  dsimp only at h
  by_cases hp : ∀ p ∈ l, lvC x < lvC p.x
  · rw [if_pos hp] at h; cases h; exact ⟨rfl, hp⟩
  · rw [if_neg hp] at h; exact absurd h (by simp)

theorem pay_none {o : Op} (ho : dueOf o = none) (hw : waitOf o = none) {l l' : List Due} (h : pay o l = some l') : l = l' := by
  unfold pay at h
  rw [ho, hw] at h
  cases h; rfl

theorem own_cred (x : Ch) (r : ℕ) (d : D) : own X c (.cred x r d) = cred (tallyAt (cell c x) () (amountC x r)) := rfl
theorem own_pos (x : Ch) (r : ℕ) : own X c (.pos x r) = posH c x r := rfl

/-! ## Moves of one kind -/

/-- A move that waits for the one arrival of a round, whatever it hands over. -/
theorem sound_wait {o : Op} {x : Ch} {r : ℕ} {s : DmaSem sig} {sp sp' : Space} {S S' : Shape} {e e' : EltTy}
    {from_ : Memref sig .tc sp S e} {to_ : Memref sig .tc sp' S' e'} {h₁ : from_.view.WordExact} {h₂ : to_.view.WordExact}
    (ho : dueOf o = none) (hw : waitOf o = some x) (hpre : pre o = [.cred x r 0, .pos x r])
    (hop : opP (F := F) c o = Prog.lift (.waitDma2 s from_ to_ h₁ h₂)) (hx : x.sem = .dma s)
    (hamt : to_.view.dmaCredit = amountC x r) (hd : dutiesC x r = {0})
    (hpost : iprop(payC X c x r 0 ∗ posH c x (r + 1)) ⊢ bigSepL (post o) (own X c)) : Sound X K c o := by
  intro l l' h Q
  obtain ⟨rfl, hlv⟩ := pay_wait ho hw h
  rw [hpre, hop, bigSepL_cons', bigSepL_cons', bigSepL_nil', own_cred, own_pos]
  iintro ⟨#HR, ⟨Hc, Hp, -⟩, HO⟩
  iintro HQ
  iapply (step_wait X K c x r hx hamt hd hlv Q) $$ [Hc Hp HO]
  · isplitr; · iexact HR
    isplitl [Hc]; · iexact Hc
    isplitl [Hp] <;> iassumption
  iintro ⟨H, Hp, HO⟩
  iapply HQ
  isplitr [HO]
  · iapply hpost
    isplitl [H] <;> iassumption
  · iexact HO

/-- The same when what it hands over is one atom. -/
theorem sound_wait_one {o : Op} {x : Ch} {r : ℕ} {s : DmaSem sig} {sp sp' : Space} {S S' : Shape} {e e' : EltTy}
    {from_ : Memref sig .tc sp S e} {to_ : Memref sig .tc sp' S' e'} {h₁ : from_.view.WordExact} {h₂ : to_.view.WordExact}
    (ho : dueOf o = none) (hw : waitOf o = some x) (hpre : pre o = [.cred x r 0, .pos x r])
    (hop : opP (F := F) c o = Prog.lift (.waitDma2 s from_ to_ h₁ h₂)) (hx : x.sem = .dma s)
    (hamt : to_.view.dmaCredit = amountC x r) (hd : dutiesC x r = {0}) {b : Atom} (hb : payC X c x r 0 = own X c b)
    (hpost : post o = [b, .pos x (r + 1)]) : Sound X K c o := by
  refine sound_wait X K c ho hw hpre hop hx hamt hd ?_
  rw [hpost, bigSepL_cons', bigSepL_cons', bigSepL_nil', hb, own_pos]
  iintro ⟨H, Hp⟩
  isplitl [H]; · iexact H
  isplitl [Hp]; · iexact Hp
  iempintro

/-- A chunk of the send buffer goes to a neighbour, out of round `r` of cell `x`, into cell `y`. -/
theorem step_post (a : Fin 3) (x y : Ch) (r : ℕ) (q : Quart) (k : Fin 8) (i : Fin 12) {n : Dev nD} (hn : n = nb a c) {sS sR : DmaSem sig}
    (hx : x.sem = .dma sS) (hy : y.sem = .dma sR) (hdx : dutiesC x r = {0}) (hdy : dutiesC y 0 = {0})
    (hax : amountC x r = N) (hay : amountC y 0 = N) (hpx : payC X c x r 0 = sqAny c i)
    (hpy : payC X n y 0 0 = remP n (cset (ch q c k)) fullShare (remV X n)) (hsrc : src n (ch q c k) = c) (l : List Due)
    (Q : PUnit → sProp 𝕄) :
    iprop(records X K ∗ locH X c q k ∗ sqAny c i ∗ peerP c a q k ∗ Ow c (⟨a, y, 0⟩ :: l) ∗ dutyTok ER (cell c x) r 0
        ∗ reached ER (cell c x) r ∗ dutyTok ER (cell (nb a c) y) 0 0)
      ⊢ iprop((iprop(locH X c q k ∗ cred (tallyAt (cell c x) () (amountC x r)) ∗ Ow c l) -∗ Q ⟨⟩)
        -∗ Runs c (packP c q k i >>= fun _ => postP c n i q k sS sR) Q) := by
  have hm : (remC q c k).view.set = cset (ch q c k) := remC_set q c k
  have hs : (sqC i).view.set = sqset i := sqC_set i
  rw [runs_bind]
  unfold peerP
  rw [← hn, ← hm]
  iintro ⟨#HR, Hl, Hs, ⟨%fd, Hd⟩, HO, Hx, Hr, Hy⟩
  iintro HQ
  iapply (step_pack X c q k i _) $$ [Hl Hs]
  · isplitl [Hl] <;> iassumption
  rw [← hs]
  iintro ⟨Hl, ⟨%f, %hf, Hs⟩⟩
  unfold postP
  have hpx' : ((sqC i).view.loc (c : Thread nD τ) ↦[(sqC i).view.set]{fullShare} f) ⊢ payC X c x r 0 := by
    rw [hpx, hs]; unfold sqAny
    iintro H; iexists f; iexact H
  have hpy' : ((remC q c k).view.loc (n : Thread nD τ) ↦[(remC q c k).view.set]{fullShare}
      ((remC q c k).view.write (Elt F) fd ((sqC i).view.read (Elt F) f) Finset.univ)) ⊢ payC X n y 0 0 := by
    rw [hpy]
    exact rem_pay X c n q k fd _ fun t => (congrFun hf t).trans (sent_eq X c n q k hsrc t)
  iapply (step_send X K c a x y r 0 0 (n := n) hn (from_ := sqC i) (to_ := remC q c k) hx hy (amt_rem q c k)
    (by rw [hdx]; exact Finset.mem_singleton_self _) (by rw [hdy]; exact Finset.mem_singleton_self _) hax hay (q := fullShare) f fd l hpx' hpy' Q)
    $$ [Hs Hd HO Hx Hr Hy]
  · isplitr; · iexact HR
    isplitl [Hs]; · iexact Hs
    isplitl [Hd]; · iexact Hd
    isplitl [HO]; · iexact HO
    isplitl [Hx]; · iexact Hx
    isplitl [Hr]; · iexact Hr
    rw [hn]; iexact Hy
  iintro ⟨Hc, HO⟩
  iapply HQ
  isplitl [Hl]; · iexact Hl
  isplitl [Hc] <;> iassumption

/-- A chunk received is forwarded to a neighbour: a half of what is held of it goes along. -/
theorem sound_pass {o : Op} (a : Fin 3) (x y : Ch) (d : D) (q : Quart) (k : Fin 8) (s s₁ s₂ : Sh) {n : Dev nD} (hn : n = nb a c)
    (hs : sh s₂ ∈ PCS.op (sh s₁) (sh s)) {sS sR : DmaSem sig} (ho : dueOf o = some ⟨a, y, 0⟩)
    (hpre : pre o = [.rem q k s₂, .peer a q k, .tok x 0 d, .due ⟨a, y, 0⟩]) (hpost : post o = [.rem q k s, .cred x 0 d])
    (hop : opP (F := F) c o = passP c n q k sS sR) (hx : x.sem = .dma sS) (hy : y.sem = .dma sR)
    (hdx : d ∈ dutiesC x 0) (hdy : dutiesC y 0 = {0}) (hax : amountC x 0 = N) (hay : amountC y 0 = N)
    (hpx : payC X c x 0 d = own X c (.rem q k s₁))
    (hpy : payC X n y 0 0 = remP n (cset (ch q c k)) fullShare (remV X n)) (hsrc : src n (ch q c k) = src c (ch q c k)) :
    Sound X K c o := by
  intro l l' h Q
  obtain rfl := pay_due ho h
  rw [hpre, hop, hpost]
  simp only [bigSepL_cons', bigSepL_nil']
  have hm : (remC q c k).view.set = cset (ch q c k) := remC_set q c k
  show iprop(_ ∗ (remH X c q k (sh s₂) ∗ peerP c a q k ∗ dutyTok ER (cell c x) 0 d ∗ dutyTok ER (cell (nb a c) y) 0 0 ∗ emp) ∗ _)
    ⊢ iprop((iprop((remH X c q k (sh s) ∗ cred (tallyAt (cell c x) () (amountC x 0)) ∗ emp) ∗ _) -∗ _) -∗ _)
  have hsplit : remH X c q k (sh s₂) ⊢ iprop(remH X c q k (sh s₁) ∗ remH X c q k (sh s)) := (pointsTo_share hs).1
  iintro ⟨#HR, ⟨Hm, Hd, Hx, Hy, -⟩, HO⟩
  iintro HQ
  ihave Hm := hsplit $$ Hm
  icases Hm with ⟨Hm, Hk⟩
  unfold peerP remH
  rw [← hn, ← hm]
  icases Hd with ⟨%fd, Hd⟩
  unfold passP
  have hpx' : ((remC q c k).view.loc (c : Thread nD τ) ↦[(remC q c k).view.set]{sh s₁} (remV X c)) ⊢ payC X c x 0 d := by
    rw [hpx, hm]; exact .rfl
  have hpy' : ((remC q c k).view.loc (n : Thread nD τ) ↦[(remC q c k).view.set]{fullShare}
      ((remC q c k).view.write (Elt F) fd ((remC q c k).view.read (Elt F) (remV X c)) Finset.univ)) ⊢ payC X n y 0 0 := by
    rw [hpy]
    exact rem_pay X c n q k fd _ fun t => passed_eq X c n q k hsrc t
  iapply (step_send X K c a x y 0 d 0 (n := n) hn (from_ := remC q c k) (to_ := remC q c k) hx hy (amt_rem q c k)
    hdx (by rw [hdy]; exact Finset.mem_singleton_self _) hax hay (q := sh s₁) (remV X c) fd l' hpx' hpy' Q)
    $$ [Hm Hd HO Hx Hy]
  · isplitr; · iexact HR
    isplitl [Hm]; · iexact Hm
    isplitl [Hd]; · iexact Hd
    isplitl [HO]; · iexact HO
    isplitl [Hx]; · iexact Hx
    isplitr; · iapply (records_reached X K c x); iexact HR
    rw [hn]; iexact Hy
  iintro ⟨Hc, HO⟩
  iapply HQ
  isplitr [HO]
  · isplitl [Hk]; · iexact Hk
    isplitl [Hc]; · iexact Hc
    iempintro
  · iexact HO

end Moves

end Cert.KernelIdeal.Hop

end
-- ==== Proof.Sounds.lean ====
/-
# All moves are sound
-/
module

public import proofs.«01_k».proof.Proof.Moves

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Sounds
variable (X : Dev nD → S8192x1024.Idx → Elt F .f32) (K : Dev nD × Ch → ℕ) (c : Dev nD)

/-! ## Copies on the device -/

theorem sound_fetch (k : Fin 8) : Sound X K c (.fetch k) := by
  intro l l' h Q
  obtain rfl := pay_none (o := .fetch k) rfl rfl h
  simp only [pre, post, bigSepL_cons', bigSepL_nil']
  have hx : (xC .own c k).view.set = cset (ch .own c k) := xC_set .own c k
  have hl : (locC .own c k).view.set = cset (ch .own c k) := locC_set .own c k
  show iprop(_ ∗ (xH X c k ∗ (∃ f, locP (F := F) c (cset (ch .own c k)) fullShare f) ∗ dutyTok ER (cell c (.fetch k)) 0 0 ∗ emp) ∗ _)
    ⊢ iprop((iprop((cred (tallyAt (cell c (.fetch k)) () (amountC (.fetch k) 0)) ∗ emp) ∗ _) -∗ _) -∗ Runs c (fetchP c k) Q)
  unfold xH fetchP
  iintro ⟨#HR, ⟨Hx, ⟨%f, Hl⟩, Ht, -⟩, HO⟩
  iintro HQ
  ihave Hx := (Entails.of_eq (congrArg (fun I => (iprop(xP c I fullShare (X c)) : sProp 𝕄)) hx.symm)) $$ Hx
  ihave Hl := (Entails.of_eq (congrArg (fun I => (iprop(locP c I fullShare f) : sProp 𝕄)) hl.symm)) $$ Hl
  iapply (step_copy X K c (.fetch k) 0 (from_ := xC .own c k) (to_ := locC .own c k) rfl (amt_loc .own c k) rfl (q := fullShare) (X c) f
    (fetch_pay X c k f) Q) $$ [Hx Hl Ht]
  · isplitr; · iexact HR
    isplitl [Hx]; · iexact Hx
    isplitl [Hl]; · iexact Hl
    isplitl [Ht]; · iexact Ht
    iapply (records_reached X K c (.fetch k)); iexact HR
  iintro Hc
  iapply HQ
  isplitl [Hc]
  · isplitl [Hc]; · iexact Hc
    iempintro
  iexact HO

theorem sound_bulk (b : Fin 3) : Sound X K c (.bulk b) := by
  intro l l' h Q
  obtain rfl := pay_none (o := .bulk b) rfl rfl h
  simp only [pre, post, bigSepL_cons', bigSepL_nil']
  have hx : (xB b c).view.set = bset (quart (bQ b) c) := xB_set b c
  have hl : (locB b c).view.set = bset (quart (bQ b) c) := locB_set b c
  show iprop(_ ∗ (xbH X c b ∗ (∃ f, locP (F := F) c (bset (quart (bQ b) c)) fullShare f) ∗ dutyTok ER (cell c (.bulk b)) 0 0 ∗ emp) ∗ _)
    ⊢ iprop((iprop((cred (tallyAt (cell c (.bulk b)) () (amountC (.bulk b) 0)) ∗ emp) ∗ _) -∗ _) -∗ Runs c (bulkP c b) Q)
  unfold xbH bulkP
  iintro ⟨#HR, ⟨Hx, ⟨%f, Hl⟩, Ht, -⟩, HO⟩
  iintro HQ
  ihave Hx := (Entails.of_eq (congrArg (fun I => (iprop(xP c I fullShare (X c)) : sProp 𝕄)) hx.symm)) $$ Hx
  ihave Hl := (Entails.of_eq (congrArg (fun I => (iprop(locP c I fullShare f) : sProp 𝕄)) hl.symm)) $$ Hl
  iapply (step_copy X K c (.bulk b) 0 (from_ := xB b c) (to_ := locB b c) rfl (amt_locB b c) rfl (q := fullShare) (X c) f
    (bulk_pay X c b f) Q) $$ [Hx Hl Ht]
  · isplitr; · iexact HR
    isplitl [Hx]; · iexact Hx
    isplitl [Hl]; · iexact Hl
    isplitl [Ht]; · iexact Ht
    iapply (records_reached X K c (.bulk b)); iexact HR
  iintro Hc
  iapply HQ
  isplitl [Hc]
  · isplitl [Hc]; · iexact Hc
    iempintro
  iexact HO

theorem sound_write (n : Fin 32) : Sound X K c (.write n) := by
  intro l l' h Q
  obtain rfl := pay_none (o := .write n) rfl rfl h
  simp only [pre, post, bigSepL_cons', bigSepL_nil']
  show iprop(_ ∗ (locH X c (emQ n) (emK n) ∗ remH X c (emQ n) (emK n) (sh (shN n)) ∗ osAny c (emS n)
        ∗ (∃ f, outP (F := F) c (cset (chN c n.val)) fullShare f) ∗ dutyTok ER (cell c (.out (emS n))) (n.val / 2) 0
        ∗ iprop(atPos ER (cell c (.out (emS n))) (n.val / 2) ∅ 0 ∗ reached ER (cell c (.out (emS n))) (n.val / 2)) ∗ emp) ∗ _)
    ⊢ iprop((iprop((locH X c (emQ n) (emK n) ∗ remH X c (emQ n) (emK n) (sh (shN n))
        ∗ cred (tallyAt (cell c (.out (emS n))) () (amountC (.out (emS n)) (n.val / 2)))
        ∗ iprop(atPos ER (cell c (.out (emS n))) (n.val / 2) ∅ 0 ∗ reached ER (cell c (.out (emS n))) (n.val / 2)) ∗ emp) ∗ _) -∗ _)
      -∗ Runs c (writeP c n) Q)
  iintro ⟨#HR, ⟨Hl, Hm, Hs, Ho, Ht, ⟨Hat, #Hr⟩, -⟩, HO⟩
  iintro HQ
  iapply (step_write X c K n (sh (shN n)) Q) $$ [Hl Hm Hs Ho Ht]
  · isplitr; · iexact HR
    isplitl [Hl]; · iexact Hl
    isplitl [Hm]; · iexact Hm
    isplitl [Hs]; · iexact Hs
    isplitl [Ho]; · iexact Ho
    isplitl [Ht]; · iexact Ht
    iexact Hr
  iintro ⟨Hl, Hm, Hc⟩
  iapply HQ
  isplitr [HO]
  · isplitl [Hl]; · iexact Hl
    isplitl [Hm]; · iexact Hm
    isplitl [Hc]; · iexact Hc
    isplitl [Hat]
    · isplitl [Hat]; · iexact Hat
      iexact Hr
    iempintro
  iexact HO

/-! ## The handshake -/

theorem sound_ready (a : Fin 3) : Sound X K c (.ready a) := by
  intro l l' h Q
  obtain rfl := pay_due (o := .ready a) rfl h
  simp only [pre, post, bigSepL_cons', bigSepL_nil']
  show iprop(_ ∗ (payC X (nb a c) .ready 0 (dOf a) ∗ dutyTok ER (cell (nb a c) .ready) 0 (dOf a) ∗ emp) ∗ _)
    ⊢ iprop((iprop(emp ∗ _) -∗ _) -∗ Runs c (readyP c a) Q)
  iintro ⟨#HR, ⟨Hp, Ht, -⟩, HO⟩
  iintro HQ
  iapply (step_ready X K c a Q) $$ [Hp Ht HO]
  · isplitr; · iexact HR
    isplitl [Hp]; · iexact Hp
    isplitl [Ht] <;> iassumption
  iintro HO
  iapply HQ
  isplitr; · iempintro
  iexact HO

theorem sound_meet : Sound X K c .meet := by
  intro l l' h Q
  obtain ⟨rfl, hlv⟩ := pay_wait (o := .meet) rfl rfl h
  simp only [pre, post, bigSepL_cons', bigSepL_nil', bigSepL_append, bigSepL_map]
  show iprop(_ ∗ (cred (tallyAt (cell c .ready) () 3) ∗ posH c .ready 0 ∗ emp) ∗ _)
    ⊢ iprop((iprop((posH c .ready 1 ∗ ((bigSepL (lends 0) fun p => peerP c 0 p.1 p.2) ∗ (bigSepL (lends 1) fun p => peerP c 1 p.1 p.2))
        ∗ (bigSepL (lends 2) fun p => peerP c 2 p.1 p.2)) ∗ _) -∗ _) -∗ Runs c (semWaitWord bar 3#32) Q)
  iintro ⟨#HR, ⟨Hc, Hp, -⟩, HO⟩
  iintro HQ
  iapply (step_meet X K c hlv Q) $$ [Hc Hp HO]
  · isplitr; · iexact HR
    isplitl [Hc]; · iexact Hc
    isplitl [Hp] <;> iassumption
  iintro ⟨H, Hp, HO⟩
  ihave H := (show (bigSep (dutiesC .ready 0) fun d => payC X c .ready 0 d)
      ⊢ iprop((bigSepL (lends 0) fun p => peerP c 0 p.1 p.2) ∗ (bigSepL (lends 1) fun p => peerP c 1 p.1 p.2)
        ∗ (bigSepL (lends 2) fun p => peerP c 2 p.1 p.2)) from
    Entails.of_eq (bigSep_eq_bigSepL_of_eq [0, 1, 2] (by decide) (by decide) _)) $$ H
  icases H with ⟨H0, H1, H2⟩
  iapply HQ
  isplitr [HO]
  · isplitl [Hp]; · iexact Hp
    isplitl [H0 H1]
    · isplitl [H0]; · iexact H0
      iexact H1
    iexact H2
  iexact HO

/-! ## Waits -/

/-- A quarter is its eight chunks. -/
theorem bset_chunks (q : Quart) : bset (quart q c) = (List.finRange 8).toFinset.biUnion fun k => cset (ch q c k) := by
  ext i
  rw [mem_bset, Finset.mem_biUnion]
  constructor
  · intro h
    refine ⟨⟨(row i).val % 8, Nat.mod_lt _ (by decide)⟩, by simp, mem_cset.2 (Fin.ext ?_)⟩
    show (row i).val = 8 * (quart q c).val + (row i).val % 8
    omega
  · rintro ⟨k, -, hk⟩
    rw [mem_cset.1 hk]
    show (8 * (quart q c).val + k.val) / 8 = _
    omega

theorem ch_inj (q : Quart) {k k' : Fin 8} (h : ch q c k = ch q c k') : k = k' := by
  have h := congrArg Fin.val h
  change 8 * (quart q c).val + k.val = 8 * (quart q c).val + k'.val at h
  exact Fin.ext (by omega)

theorem locbH_chunks (b : Fin 3) : locbH X c b = bigSepL (List.finRange 8) fun k => locH X c (bQ b) k := by
  unfold locbH locH locP
  rw [bset_chunks, pointsTo_biUnion _ _ fun k _ k' _ h => cset_disjoint fun e => h (ch_inj c _ e),
    bigSep_eq_bigSepL_of_eq (List.finRange 8) rfl (List.nodup_finRange 8)]

theorem sound_fetched (k : Fin 8) : Sound X K c (.fetched k) := by
  refine sound_wait X K c (x := .fetch k) (r := 0) rfl rfl rfl rfl rfl (amt_loc .own c k) rfl ?_
  show iprop(iprop(xH X c k ∗ locH X c .own k) ∗ _) ⊢ iprop(xH X c k ∗ locH X c .own k ∗ posH c (.fetch k) 1)
  iintro ⟨⟨H1, H2⟩, H3⟩
  isplitl [H1]; · iexact H1
  isplitl [H2] <;> iassumption

theorem sound_bulked (b : Fin 3) : Sound X K c (.bulked b) := by
  refine sound_wait X K c (x := .bulk b) (r := 0) rfl rfl rfl rfl rfl (amt_locB b c) rfl ?_
  simp only [post, bigSepL_cons', bigSepL_map]
  show iprop(iprop(xbH X c b ∗ locbH X c b) ∗ _) ⊢ iprop(xbH X c b ∗ posH c (.bulk b) 1 ∗ bigSepL (List.finRange 8) fun k => locH X c (bQ b) k)
  rw [← locbH_chunks]
  iintro ⟨⟨H1, H2⟩, H3⟩
  isplitl [H1]; · iexact H1
  isplitl [H3] <;> iassumption

theorem sound_recvX (k : Fin 8) : Sound X K c (.recvX k) :=
  sound_wait_one X K c (x := .xr k) (r := 0) (b := .rem .own k .all) rfl rfl rfl rfl rfl (amt_rem .own c k) rfl rfl rfl
theorem sound_recvY (k : Fin 8) : Sound X K c (.recvY k) :=
  sound_wait_one X K c (x := .yr k) (r := 0) (b := .rem .y k .all) rfl rfl rfl rfl rfl (amt_rem .y c k) rfl rfl rfl
theorem sound_recvZa (i : Fin 5) : Sound X K c (.recvZa i) :=
  sound_wait_one X K c (x := .zar i) (r := 0) (b := .rem .za (k5 i) .all) rfl rfl rfl rfl rfl (amt_rem .own c (k5 i)) rfl rfl rfl
theorem sound_recvZb (i : Fin 5) : Sound X K c (.recvZb i) :=
  sound_wait_one X K c (x := .zbr i) (r := 0) (b := .rem .zb (k5b i) .all) rfl rfl rfl rfl rfl (amt_rem .y c (k5b i)) rfl rfl rfl
theorem sound_recvXe (i : Fin 4) : Sound X K c (.recvXe i) :=
  sound_wait_one X K c (x := .xer i) (r := 0) (b := .rem (xeQ i) (xeK i) .all) rfl rfl rfl rfl rfl (amt_rem (xeQ i) c (xeK i)) rfl rfl rfl
theorem sound_recvYb (i : Fin 2) : Sound X K c (.recvYb i) :=
  sound_wait_one X K c (x := .ybr i) (r := 0) (b := .rem .zb (k2 i) .all) rfl rfl rfl rfl rfl (amt_rem .zb c (k2 i)) rfl rfl rfl
theorem sound_leftIn (k : Fin 8) : Sound X K c (.leftIn k) :=
  sound_wait_one X K c (x := .fetch k) (r := 1) (b := .sq (injS k)) rfl rfl rfl rfl rfl (amt_sq (injS k)) rfl rfl rfl
theorem sound_leftXe (i : Fin 4) : Sound X K c (.leftXe i) :=
  sound_wait_one X K c (x := .xes i) (r := 0) (b := .sq (xeS i)) rfl rfl rfl rfl rfl (amt_sq (xeS i)) rfl rfl rfl
theorem sound_leftYb (i : Fin 2) : Sound X K c (.leftYb i) :=
  sound_wait_one X K c (x := .ybs i) (r := 0) (b := .rem .za (k2 i) .l) rfl rfl rfl rfl rfl (amt_rem .za c (k2 i)) rfl rfl rfl

theorem sound_wrote (n : Fin 32) : Sound X K c (.wrote n) := by
  refine sound_wait X K c (x := .out (emS n)) (r := n.val / 2) rfl rfl rfl rfl rfl (amt_out (emQ n) c (emK n))
    (if_pos (by have := n.isLt; omega)) ?_
  show iprop(iprop(outH X c (2 * (n.val / 2) + (emS n).val) ∗ osAny c (emS n)) ∗ _)
    ⊢ iprop(outH X c n.val ∗ osAny c (emS n) ∗ posH c (.out (emS n)) (n.val / 2 + 1))
  rw [slot_eq]
  iintro ⟨⟨H1, H2⟩, H3⟩
  isplitl [H1]; · iexact H1
  isplitl [H2] <;> iassumption

/-! ## The roads -/

/-- What has come back over a road when all its departures are over. -/
theorem fwd_back (a : Fin 3) : (bigSep (dutiesC (.fwd a) 0) fun d => fwdPay X c a d) ⊢ bigSepL (fwdBack a) (own X c) := by
  fin_cases a
  · show (bigSep Finset.univ fun d => fwdPay X c 0 d) ⊢ bigSepL ((List.finRange 8).map fun k => .rem .own k .l) (own X c)
    rw [bigSep_univ_eq_bigSepL (List.finRange 8) (by decide) (List.nodup_finRange 8), bigSepL_map]
    exact .rfl
  · show (bigSep ({0, 1, 2, 3, 4} : Finset D) fun d => fwdPay X c 1 d) ⊢ bigSepL ((List.finRange 5).map fun i => .rem .own (k5 i) .rl) (own X c)
    rw [bigSep_eq_bigSepL_of_eq ((List.finRange 5).map d5) (by decide) (by decide), bigSepL_map, bigSepL_map]
    exact .rfl
  · show (bigSep ({0, 1, 2, 3, 4} : Finset D) fun d => fwdPay X c 2 d) ⊢ bigSepL ((List.finRange 5).map fun i => .rem .y (k5b i) .l) (own X c)
    rw [bigSep_eq_bigSepL_of_eq ((List.finRange 5).map d5) (by decide) (by decide), bigSepL_map, bigSepL_map]
    refine bigSepL_mono fun i _ => ?_
    show remH X c .y ⟨((d5 i).val + 2) % 8, _⟩ sL ⊢ remH X c .y (k5b i) sL
    rw [show (⟨((d5 i).val + 2) % 8, Nat.mod_lt _ (by decide)⟩ : Fin 8) = k5b i from
      Fin.ext (Nat.mod_eq_of_lt (show i.val + 2 < 8 by have := i.isLt; omega))]

theorem fwd_card (a : Fin 3) : (dutiesC (.fwd a) 0).card = fwdN a := by revert a; decide

theorem sound_left (a : Fin 3) (j : Fin 8) : Sound X K c (.left a j) := by
  intro l l' h Q
  obtain ⟨rfl, hlv⟩ := pay_wait (o := .left a j) rfl rfl h
  have hx : (Ch.fwd a).sem = .dma (dsem cc0_scratch6 a) := rfl
  simp only [pre, bigSepL_cons', bigSepL_nil']
  show iprop(_ ∗ (cred (tallyAt (cell c (.fwd a)) () N) ∗ partH X c a j.val ∗ emp) ∗ _) ⊢ _
  iintro ⟨#HR, ⟨Hc, Hp, -⟩, HO⟩
  iintro HQ
  by_cases hj : j.val + 1 = fwdN a
  · iapply (step_last X K c a j.val (from_ := remC (leftQ a) c (leftK a j)) (to_ := remC (leftQ a) c (leftK a j)) hx
      (amt_rem _ c _) ((fwd_card a).trans hj.symm) hlv Q) $$ [Hc Hp HO]
    · isplitr; · iexact HR
      isplitl [Hc]; · iexact Hc
      isplitl [Hp] <;> iassumption
    iintro ⟨H, Hp, HO⟩
    ihave H := (fwd_back X c a) $$ H
    iapply HQ
    isplitr [HO]
    · rw [show post (.left a j) = .pos (.fwd a) 1 :: fwdBack a from if_pos hj, bigSepL_cons', own_pos]
      isplitl [Hp] <;> iassumption
    iexact HO
  · iapply (step_part X K c a j.val (from_ := remC (leftQ a) c (leftK a j)) (to_ := remC (leftQ a) c (leftK a j)) hx
      (amt_rem _ c _) hlv Q) $$ [Hc Hp HO]
    · isplitr; · iexact HR
      isplitl [Hc]; · iexact Hc
      isplitl [Hp] <;> iassumption
    iintro ⟨Hp, HO⟩
    iapply HQ
    isplitr [HO]
    · rw [show post (.left a j) = [.part a (j.val + 1)] from if_neg hj, bigSepL_cons', bigSepL_nil',
        show own X c (.part a (j.val + 1)) = partH X c a (j.val + 1) from rfl]
      isplitl [Hp]; · iexact Hp
      iempintro
    iexact HO

/-! ## Transfers -/

theorem fwd_duty (a : Fin 3) (d : D) (h : d.val < fwdN a) : d ∈ dutiesC (.fwd a) 0 := by revert a d; decide

theorem sound_inject (k : Fin 8) : Sound X K c (.inject k) := by
  intro l l' h Q
  obtain rfl := pay_due (o := .inject k) rfl h
  simp only [pre, post, bigSepL_cons', bigSepL_nil']
  show iprop(_ ∗ (locH X c .own k ∗ sqAny c (injS k) ∗ peerP c 0 .own k ∗ dutyTok ER (cell c (.fetch k)) 1 0
        ∗ dutyTok ER (cell (nb 0 c) (.xr k)) 0 0
        ∗ iprop(atPos ER (cell c (.fetch k)) 1 ∅ 0 ∗ reached ER (cell c (.fetch k)) 1) ∗ emp) ∗ _)
    ⊢ iprop((iprop((locH X c .own k ∗ cred (tallyAt (cell c (.fetch k)) () (amountC (.fetch k) 1))
        ∗ iprop(atPos ER (cell c (.fetch k)) 1 ∅ 0 ∗ reached ER (cell c (.fetch k)) 1) ∗ emp) ∗ _) -∗ _)
      -∗ Runs c (packP c .own k (injS k) >>= fun _ => postP c (injD k c) (injS k) .own k (dsem cc0_scratch4 k) (dsem cc0_scratch9 k)) Q)
  iintro ⟨#HR, ⟨Hl, Hs, Hd, Ht, Hy, ⟨Hat, #Hr⟩, -⟩, HO⟩
  iintro HQ
  iapply (step_post X K c 0 (.fetch k) (.xr k) 1 .own k (injS k) (n := injD k c) (injD_eq k c) rfl rfl rfl rfl rfl rfl rfl
    (show remP _ (cset (ch .own (injD k c) k)) fullShare _ = _ by rw [injD_eq, ch_own_px])
    (by rw [injD_eq]; exact src_inj c k) l' Q) $$ [Hl Hs Hd HO Ht Hy]
  · isplitr; · iexact HR
    isplitl [Hl]; · iexact Hl
    isplitl [Hs]; · iexact Hs
    isplitl [Hd]; · iexact Hd
    isplitl [HO]; · iexact HO
    isplitl [Ht]; · iexact Ht
    isplitr; · iexact Hr
    iexact Hy
  iintro ⟨Hl, Hc, HO⟩
  iapply HQ
  isplitr [HO]
  · isplitl [Hl]; · iexact Hl
    isplitl [Hc]; · iexact Hc
    isplitl [Hat]
    · isplitl [Hat]; · iexact Hat
      iexact Hr
    iempintro
  iexact HO

theorem ch_xe : ∀ c i, ch (xeQ i) (px c) (xeK i) = ch (xeQ i) c (xeK i) := by decide

theorem sound_xe (i : Fin 4) : Sound X K c (.xe i) := by
  intro l l' h Q
  obtain rfl := pay_due (o := .xe i) rfl h
  simp only [pre, post, bigSepL_cons', bigSepL_nil']
  show iprop(_ ∗ (locH X c (xeQ i) (xeK i) ∗ sqAny c (xeS i) ∗ peerP c 0 (xeQ i) (xeK i) ∗ dutyTok ER (cell c (.xes i)) 0 0
        ∗ dutyTok ER (cell (nb 0 c) (.xer i)) 0 0 ∗ emp) ∗ _)
    ⊢ iprop((iprop((locH X c (xeQ i) (xeK i) ∗ cred (tallyAt (cell c (.xes i)) () (amountC (.xes i) 0)) ∗ emp) ∗ _) -∗ _)
      -∗ Runs c (packP c (xeQ i) (xeK i) (xeS i) >>= fun _ => postP c (xeD i c) (xeS i) (xeQ i) (xeK i) (dsem cc0_scratch7 i) (dsem cc0_scratch13 i)) Q)
  iintro ⟨#HR, ⟨Hl, Hs, Hd, Ht, Hy, -⟩, HO⟩
  iintro HQ
  iapply (step_post X K c 0 (.xes i) (.xer i) 0 (xeQ i) (xeK i) (xeS i) (n := xeD i c) (xeD_eq i c) rfl rfl rfl rfl rfl rfl rfl
    (show remP _ (cset (ch (xeQ i) (xeD i c) (xeK i))) fullShare _ = _ by rw [xeD_eq, ch_xe])
    (by rw [xeD_eq]; exact src_xe c i) l' Q) $$ [Hl Hs Hd HO Ht Hy]
  · isplitr; · iexact HR
    isplitl [Hl]; · iexact Hl
    isplitl [Hs]; · iexact Hs
    isplitl [Hd]; · iexact Hd
    isplitl [HO]; · iexact HO
    isplitl [Ht]; · iexact Ht
    isplitr; · iapply (records_reached X K c (.xes i)); iexact HR
    iexact Hy
  iintro ⟨Hl, Hc, HO⟩
  iapply HQ
  isplitr [HO]
  · isplitl [Hl]; · iexact Hl
    isplitl [Hc]; · iexact Hc
    iempintro
  iexact HO

theorem sound_fwy (k : Fin 8) : Sound X K c (.fwy k) :=
  sound_pass X K c 1 (.fwd 0) (.yr k) k .own k .r .l .all (fwyD_eq k c) (PosShare.mem_left_op_right _) rfl rfl rfl rfl rfl rfl
    (fwd_duty 0 k k.isLt) rfl rfl rfl rfl
    (show remP _ (cset (ch .y (fwyD k c) k)) fullShare _ = _ by rw [fwyD_eq, ch_y_py])
    (by rw [fwyD_eq]; exact src_fwy c k)
theorem sound_fwz (i : Fin 5) : Sound X K c (.fwz i) :=
  sound_pass X K c 2 (.fwd 1) (.zar i) (d5 i) .own (k5 i) .rr .rl .r (fwzD_eq i c) (PosShare.mem_left_op_right _) rfl rfl rfl rfl rfl rfl
    (fwd_duty 1 (d5 i) i.isLt) rfl rfl rfl rfl
    (show remP _ (cset (ch .za (fwzD i c) (k5 i))) fullShare _ = _ by rw [fwzD_eq, ch_za_pz])
    (by rw [fwzD_eq]; exact src_fwz c i)
theorem sound_zb (i : Fin 5) : Sound X K c (.zb i) :=
  sound_pass X K c 2 (.fwd 2) (.zbr i) (d5 i) .y (k5b i) .r .l .all (zbD_eq i c) (PosShare.mem_left_op_right _) rfl rfl rfl rfl rfl rfl
    (fwd_duty 2 (d5 i) i.isLt) rfl rfl rfl
    (show remH X c .y ⟨((d5 i).val + 2) % 8, _⟩ sL = remH X c .y (k5b i) sL by
      rw [show (⟨((d5 i).val + 2) % 8, Nat.mod_lt _ (by decide)⟩ : Fin 8) = k5b i from
        Fin.ext (Nat.mod_eq_of_lt (show i.val + 2 < 8 by have := i.isLt; omega))])
    (show remP _ (cset (ch .zb (zbD i c) (k5b i))) fullShare _ = _ by rw [zbD_eq, ch_zb_pz])
    (by rw [zbD_eq]; exact src_zb c i)
theorem sound_yb (i : Fin 2) : Sound X K c (.yb i) :=
  sound_pass X K c 1 (.ybs i) (.ybr i) 0 .za (k2 i) .r .l .all (ybD_eq i c) (PosShare.mem_left_op_right _) rfl rfl rfl rfl rfl rfl
    (Finset.mem_singleton_self _) rfl rfl rfl rfl
    (show remP _ (cset (ch .zb (ybD i c) (k2 i))) fullShare _ = _ by rw [ybD_eq, ch_zb_py])
    (by rw [ybD_eq]; exact src_yb c i)

theorem sound_all (o : Op) : Sound X K c o := by
  cases o with
  | fetch k => exact sound_fetch X K c k
  | bulk b => exact sound_bulk X K c b
  | ready a => exact sound_ready X K c a
  | meet => exact sound_meet X K c
  | fetched k => exact sound_fetched X K c k
  | bulked b => exact sound_bulked X K c b
  | inject k => exact sound_inject X K c k
  | xe i => exact sound_xe X K c i
  | recvX k => exact sound_recvX X K c k
  | recvY k => exact sound_recvY X K c k
  | recvZa i => exact sound_recvZa X K c i
  | recvZb i => exact sound_recvZb X K c i
  | recvXe i => exact sound_recvXe X K c i
  | recvYb i => exact sound_recvYb X K c i
  | fwy k => exact sound_fwy X K c k
  | fwz i => exact sound_fwz X K c i
  | zb i => exact sound_zb X K c i
  | yb i => exact sound_yb X K c i
  | write n => exact sound_write X K c n
  | wrote n => exact sound_wrote X K c n
  | leftIn k => exact sound_leftIn X K c k
  | left a j => exact sound_left X K c a j
  | leftXe i => exact sound_leftXe X K c i
  | leftYb i => exact sound_leftYb X K c i

end Sounds

end Cert.KernelIdeal.Hop

end
-- ==== Proof.Tables.lean ====
/-
# Which chunks make up which quarters and buffers
-/
module

public import proofs.«01_k».proof.Proof.Sounds

@[expose] public section

noncomputable section

namespace Cert.KernelIdeal.Hop

open Cert.KernelIdeal Cert.KernelIdeal.Gen
open Idealize.ShloMosaic Idealize.ShloMosaic.TcCoe

/-! ## Quarters and chunks -/

instance : Fintype Quart := ⟨⟨[Quart.own, .y, .za, .zb], by decide⟩, fun q => by cases q <;> decide⟩

theorem quart_inj : ∀ c q q', quart q c = quart q' c → q = q' := by decide +kernel
theorem quart_cover : ∀ c m, ∃ q, quart q c = m := by decide +kernel
theorem bQ_ne : ∀ b, Quart.own ≠ bQ b := by decide
theorem quart_own_or : ∀ q, q = Quart.own ∨ ∃ b, q = bQ b := by decide

theorem ch_div (c : Dev nD) (q : Quart) (k : Fin 8) : (ch q c k).val / 8 = (quart q c).val := by
  show (8 * (quart q c).val + k.val) / 8 = _; omega
theorem quart_at (c : Dev nD) (n : Fin 32) : ∃ q, n.val / 8 = (quart q c).val := by
  obtain ⟨q, h⟩ := quart_cover c ⟨n.val / 8, by omega⟩
  exact ⟨q, (congrArg Fin.val h).symm⟩
theorem ch_at (c : Dev nD) (q : Quart) (n : Fin 32) (h : n.val / 8 = (quart q c).val) : ∃ k, ch q c k = n :=
  ⟨⟨n.val % 8, Nat.mod_lt _ (by decide)⟩, Fin.ext (show 8 * (quart q c).val + n.val % 8 = n.val by omega)⟩

/-- All chunks of all quarters. -/
def qk : List (Quart × Fin 8) := [Quart.own, .y, .za, .zb].flatMap fun q => (List.finRange 8).map fun k => (q, k)

theorem qk_nodup : qk.Nodup := by decide
theorem mem_qk (p : Quart × Fin 8) : p ∈ qk := by
  obtain ⟨q, k⟩ := p
  refine List.mem_flatMap.2 ⟨q, by cases q <;> decide, List.mem_map.2 ⟨k, List.mem_finRange k, rfl⟩⟩
theorem qk_inj (c : Dev nD) (n : Fin 32) : ∀ p ∈ qk, ∀ p' ∈ qk, ch p.1 c p.2 = n → ch p'.1 c p'.2 = n → p = p' := by
  rintro ⟨q, k⟩ - ⟨q', k'⟩ - h h'
  have e : ch q c k = ch q' c k' := h.trans h'.symm
  obtain rfl : q = q' := quart_inj c q q' (Fin.ext (by rw [← ch_div c q k, ← ch_div c q' k', e]))
  obtain rfl := ch_inj c q e
  rfl
theorem qk_cover (c : Dev nD) (n : Fin 32) : ∃ p ∈ qk, ch p.1 c p.2 = n := by
  obtain ⟨q, h⟩ := quart_at c n
  obtain ⟨k, h⟩ := ch_at c q n h
  exact ⟨(q, k), mem_qk _, h⟩

/-- The own quarter by chunks, the others whole. -/
def xs : List (Fin 8 ⊕ Fin 3) := (List.finRange 8).map .inl ++ (List.finRange 3).map .inr
def xset (c : Dev nD) : Fin 8 ⊕ Fin 3 → Finset S8192x1024.Idx
  | .inl k => cset (ch .own c k)
  | .inr b => bset (quart (bQ b) c)
def xin (c : Dev nD) : Fin 8 ⊕ Fin 3 → Fin 32 → Prop
  | .inl k, n => n = ch .own c k
  | .inr b, n => n.val / 8 = (quart (bQ b) c).val
theorem mem_xset (c : Dev nD) (i : Fin 8 ⊕ Fin 3) (t : S8192x1024.Idx) : t ∈ xset c i ↔ xin c i (row t) := by
  cases i with
  | inl k => exact mem_cset
  | inr b => exact mem_bset
theorem bQ_inj : ∀ b b', bQ b = bQ b' → b = b' := by decide
theorem own_ne (c : Dev nD) (k : Fin 8) (b : Fin 3) (n : Fin 32) (h : n = ch .own c k) (h' : n.val / 8 = (quart (bQ b) c).val) : False :=
  bQ_ne b (quart_inj c _ _ (Fin.ext (by rw [← ch_div c .own k, ← h, h'])))
theorem mem_xs (i : Fin 8 ⊕ Fin 3) : i ∈ xs := by
  rcases i with k | b
  · exact List.mem_append.2 (.inl (List.mem_map.2 ⟨k, List.mem_finRange k, rfl⟩))
  · exact List.mem_append.2 (.inr (List.mem_map.2 ⟨b, List.mem_finRange b, rfl⟩))
theorem xs_inj (c : Dev nD) (n : Fin 32) : ∀ i ∈ xs, ∀ j ∈ xs, xin c i n → xin c j n → i = j := by
  rintro (k | b) - (k' | b') - h h'
  · exact congrArg _ (ch_inj c .own (h.symm.trans h'))
  · exact (own_ne c k b' n h h').elim
  · exact (own_ne c k' b n h' h).elim
  · exact congrArg _ (bQ_inj b b' (quart_inj c _ _ (Fin.ext (h.symm.trans h'))))
theorem xs_cover (c : Dev nD) (n : Fin 32) : ∃ i ∈ xs, xin c i n := by
  obtain ⟨q, h⟩ := quart_at c n
  rcases quart_own_or q with rfl | ⟨b, rfl⟩
  · obtain ⟨k, e⟩ := ch_at c .own n h
    exact ⟨.inl k, mem_xs _, e.symm⟩
  · exact ⟨.inr b, mem_xs _, h⟩

/-- The chunks of the device's receive buffer, by the neighbour that writes into each. -/
def lent : List (Fin 3 × Quart × Fin 8) := (List.finRange 3).flatMap fun a => (lends a).map fun p => (a, p)
/-- The place of such a chunk. -/
def lentN (c : Dev nD) (p : Fin 3 × Quart × Fin 8) : Fin 32 := ch p.2.1 (nb p.1 c) p.2.2
theorem lent_nodup : lent.Nodup := by decide +kernel
theorem lent_places : ∀ c, (lent.map (lentN c)).Nodup := by decide +kernel
theorem lent_inj (c : Dev nD) (n : Fin 32) (p) (hp : p ∈ lent) (p') (hp' : p' ∈ lent) (h : lentN c p = n) (h' : lentN c p' = n) : p = p' :=
  List.inj_on_of_nodup_map (lent_places c) hp hp' (h.trans h'.symm)
theorem lent_cover : ∀ c n, ∃ p ∈ lent, lentN c p = n := by decide +kernel

theorem em_inj : ∀ n n', emQ n = emQ n' → emK n = emK n' → n = n' := by decide +kernel
theorem em_cover : ∀ q k, ∃ n, emQ n = q ∧ emK n = k := by decide +kernel
theorem chN_eq' (c : Dev nD) (n : Fin 32) : chN c n.val = ch (emQ n) c (emK n) := by
  unfold chN; rw [show Fin.ofNat 32 n.val = n from Fin.ext (Nat.mod_eq_of_lt n.isLt)]
theorem chN_inj (c : Dev nD) (m : Fin 32) (n : Fin 32) (_ : n ∈ List.finRange 32) (n' : Fin 32) (_ : n' ∈ List.finRange 32)
    (h : chN c n.val = m) (h' : chN c n'.val = m) : n = n' := by
  rw [chN_eq'] at h h'
  have e := qk_inj c m (emQ n, emK n) (mem_qk _) (emQ n', emK n') (mem_qk _) h h'
  exact em_inj n n' (congrArg Prod.fst e) (congrArg Prod.snd e)
theorem chN_cover (c : Dev nD) (m : Fin 32) : ∃ n ∈ List.finRange 32, chN c n.val = m := by
  obtain ⟨⟨q, k⟩, -, h⟩ := qk_cover c m
  obtain ⟨n, hq, hk⟩ := em_cover q k
  exact ⟨n, List.mem_finRange n, by rw [chN_eq', hq, hk]; exact h⟩

/-- The parts a chunk of the receive buffer is in at the end. -/
def remParts (p : Quart × Fin 8) : List Sh :=
  if p.1 = .own ∧ p.2.val < 5 then [.l, .rl, .rr]
  else if p.1 = .own ∨ p.1 = .y ∧ 2 ≤ p.2.val ∧ p.2.val < 7 ∨ p.1 = .za ∧ p.2.val < 2 then [.l, .r] else [.all]
theorem remEnd_eq : remEnd = qk.flatMap fun p => (remParts p).map fun s => .rem p.1 p.2 s := by decide +kernel

end Cert.KernelIdeal.Hop

end
-- ==== Proof.Buffers.lean ====
/-
# The buffers cut into pieces at the start and put together at the end

At the start a device holds its six buffers whole; the run is told of their pieces. Here they are
cut into the pieces the run starts with (`…_in`) and put together from those it ends with
(`…_out`).
-/
module

public import proofs.«01_k».proof.Proof.Tables

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem bigSepL_flatMap {I J : Type} (l : List I) (g : I → List J) (Φ : J → sProp 𝕄) :
    bigSepL (l.flatMap g) Φ = bigSepL l fun i => bigSepL (g i) Φ := by
  induction l with
  | nil => rfl
  | cons i l ih => rw [List.flatMap_cons, bigSepL_append, ih, bigSepL_cons']

section Cut
variable {ℓ : Loc nD τ sig} {I : Type} [DecidableEq I] {n : ℕ} (l : List I) (hn : l.Nodup) (S : I → Finset (Idx ℓ))
  (g : Idx ℓ → Fin n) (P : I → Fin n → Prop) (hm : ∀ i t, t ∈ S i ↔ P i (g t))
  (hd : ∀ m, ∀ i ∈ l, ∀ j ∈ l, P i m → P j m → i = j) (hc : ∀ m, ∃ i ∈ l, P i m)

include hm hc in
theorem cut_cover : l.toFinset.biUnion S = Finset.univ := by
  ext t
  simp only [Finset.mem_biUnion, List.mem_toFinset, Finset.mem_univ, iff_true]
  obtain ⟨i, hi, h⟩ := hc (g t)
  exact ⟨i, hi, (hm i t).2 h⟩
include hm hd in
theorem cut_disjoint : ∀ i ∈ l.toFinset, ∀ j ∈ l.toFinset, i ≠ j → Disjoint (S i) (S j) := fun i hi j hj hij =>
  Finset.disjoint_left.2 fun t ht ht' =>
    hij (hd _ i (List.mem_toFinset.1 hi) j (List.mem_toFinset.1 hj) ((hm i t).1 ht) ((hm j t).1 ht'))

include hn hm hd hc in
/-- A buffer held whole is its pieces, -/
theorem cut (q : PosShare TreeShare) (f : Buf (Elt F) ℓ) :
    (ℓ ↦[Finset.univ]{q} f : sProp 𝕄) = bigSepL l fun i => ℓ ↦[S i]{q} f := by
  rw [← cut_cover l S g P hm hc, pointsTo_biUnion _ _ (cut_disjoint l S g P hm hd), bigSep_eq_bigSepL_of_eq l rfl hn]

include hn hm hd hc in
/-- each of them holding something, -/
theorem cut_any (q : PosShare TreeShare) :
    (iprop(∃ f, ℓ ↦[Finset.univ]{q} f) : sProp 𝕄) ⊢ bigSepL l fun i => iprop(∃ f, ℓ ↦[S i]{q} f) := by
  iintro ⟨%f, H⟩
  ihave H := (Entails.of_eq (cut l hn S g P hm hd hc q f)) $$ H
  iapply (show (bigSepL l fun i => ℓ ↦[S i]{q} f : sProp 𝕄) ⊢ bigSepL l fun i => iprop(∃ f, ℓ ↦[S i]{q} f) from
    bigSepL_mono fun i _ => by iintro H; iexists f; iexact H)
  iexact H

include hn hm hd hc in
/-- and the other way round. -/
theorem join_any (q : PosShare TreeShare) (f₀ : Buf (Elt F) ℓ) :
    (bigSepL l fun i => iprop(∃ f, ℓ ↦[S i]{q} f)) ⊢ (iprop(∃ f, ℓ ↦[Finset.univ]{q} f) : sProp 𝕄) := by
  have : Nonempty (Buf (Elt F) ℓ) := ⟨f₀⟩
  rw [← bigSep_eq_bigSepL_of_eq l rfl hn]
  refine (BI.bigSep_exists_pi l.toFinset (fun i (f : Buf (Elt F) ℓ) => (ℓ ↦[S i]{q} f : sProp 𝕄))).trans ?_
  iintro ⟨%fs, H⟩
  ihave H := (pointsTo_biUnion_join _ S fs f₀ (cut_disjoint l S g P hm hd)) $$ H
  icases H with ⟨%f, -, H⟩
  rw [cut_cover l S g P hm hc]
  iexists f; iexact H
end Cut

/-! ## Chunks -/

theorem mem_cset' (j : Fin 32) (t : S8192x1024.Idx) : t ∈ cset j ↔ j = row t := mem_cset.trans eq_comm

/-- The place of the send buffer, and of the staging buffer, a position lies in. -/
def sqrow (i : S3072x1024.Idx) : Fin 12 := ⟨(i 0).val / 256, by have h : (i 0).val < 3072 := (i 0).isLt; omega⟩
def osrow (i : S2x256x1024.Idx) : Fin 2 := ⟨(i 0).val, (i 0).isLt⟩
theorem mem_sqset (j : Fin 12) (i : S3072x1024.Idx) : i ∈ sqset j ↔ j = sqrow i := by
  unfold sqset sqRect sqrow
  rw [Rect.mem_set_unit, Fin.ext_iff]
  constructor
  · intro h; have h0 := h 0; simp [S256x1024] at h0 ⊢; omega
  · intro h a
    fin_cases a
    · simp [S256x1024] at h ⊢; omega
    · have h1 : (i 1).val < 1024 := (i 1).isLt
      simp [S256x1024]; omega
theorem mem_osset (j : Fin 2) (i : S2x256x1024.Idx) : i ∈ osset j ↔ j = osrow i := by
  unfold osset osRect osrow
  rw [Rect.mem_set_unit, Fin.ext_iff]
  constructor
  · intro h; have h0 := h 0; simp at h0 ⊢; omega
  · intro h a
    fin_cases a
    · simp at h ⊢; omega
    · have h1 : (i 1).val < 256 := (i 1).isLt
      simp; omega
    · have h1 : (i 2).val < 1024 := (i 2).isLt
      simp; omega
theorem fin_inj {n : ℕ} : ∀ m : Fin n, ∀ i ∈ List.finRange n, ∀ j ∈ List.finRange n, i = m → j = m → i = j :=
  fun m i _ j _ h h' => h.trans h'.symm
theorem fin_cover {n : ℕ} : ∀ m : Fin n, ∃ i ∈ List.finRange n, i = m := fun m => ⟨m, List.mem_finRange m, rfl⟩

section Bufs
variable (X : Dev nD → S8192x1024.Idx → Elt F .f32) (c : Dev nD)

/-- Where the buffers are. -/
abbrev xL : Loc nD τ sig := (xM : Memref sig .tc .hbm S8192x1024 .f32).view.loc (c : Thread nD τ)
abbrev locL : Loc nD τ sig := (locM : Memref sig .tc .vmem S8192x1024 .f32).view.loc (c : Thread nD τ)
abbrev remL : Loc nD τ sig := (remM : Memref sig .tc .vmem S8192x1024 .bf16).view.loc (c : Thread nD τ)
abbrev outL : Loc nD τ sig := (outM : Memref sig .tc .hbm S8192x1024 .bf16).view.loc (c : Thread nD τ)
abbrev sqL : Loc nD τ sig := (sqM : Memref sig .tc .vmem S3072x1024 .bf16).view.loc (c : Thread nD τ)
abbrev osL : Loc nD τ sig := (osM : Memref sig .tc .vmem S2x256x1024 .bf16).view.loc (c : Thread nD τ)

/-- The buffers, whole. -/
abbrev xAll : sProp 𝕄 := xP c Finset.univ fullShare (X c)
abbrev outAll : sProp 𝕄 := outP c Finset.univ fullShare (outV X c)
abbrev locAny : sProp 𝕄 := iprop(∃ f, locP (F := F) c Finset.univ fullShare f)
abbrev remAny : sProp 𝕄 := iprop(∃ f, remP (F := F) c Finset.univ fullShare f)
abbrev sqAll : sProp 𝕄 := iprop(∃ f, sqP (F := F) c Finset.univ fullShare f)
abbrev osAll : sProp 𝕄 := iprop(∃ f, osP (F := F) c Finset.univ fullShare f)
abbrev outAny : sProp 𝕄 := iprop(∃ f, outP (F := F) c Finset.univ fullShare f)

theorem x_pieces : xAll X c = iprop((bigSepL (List.finRange 8) fun k => xH X c k) ∗ bigSepL (List.finRange 3) fun b => xbH X c b) :=
  (cut (ℓ := xL c) xs (by decide) (xset c) row (xin c) (mem_xset c) (xs_inj c) (xs_cover c) fullShare (X c)).trans (by
    unfold xs; rw [bigSepL_append, bigSepL_map, bigSepL_map]; rfl)

theorem loc_in : locAny (F := F) c ⊢ iprop((bigSepL (List.finRange 8) fun k => own X c (.loc0 k)) ∗ bigSepL (List.finRange 3) fun b => own X c (.locb0 b)) :=
  (cut_any (ℓ := locL c) xs (by decide) (xset c) row (xin c) (mem_xset c) (xs_inj c) (xs_cover c) fullShare).trans (Entails.of_eq (by
    unfold xs; rw [bigSepL_append, bigSepL_map, bigSepL_map]; rfl))

theorem loc_out : (bigSepL qk fun p => locH X c p.1 p.2) ⊢ locAny (F := F) c := by
  refine (Entails.of_eq (cut (ℓ := locL c) qk qk_nodup (fun p => cset (ch p.1 c p.2)) row (fun p n => ch p.1 c p.2 = n)
    (fun p t => mem_cset' _ t) (qk_inj c) (qk_cover c) fullShare (X c)).symm).trans ?_
  iintro H; iexists (X c); iexact H

theorem own_lend (a : Fin 3) : own X c (.lend a)
    = bigSepL (lends a) fun p => iprop(∃ f, remP (F := F) c (cset (ch p.1 (nb a c) p.2)) fullShare f) := by
  have h : own X c (.lend a) = bigSepL (lends a) fun p => peerP (F := F) (nb a c) a p.1 p.2 := by fin_cases a <;> rfl
  rw [h]; unfold peerP; rw [nb_nb]

theorem rem_in : remAny (F := F) c ⊢ bigSepL (List.finRange 3) fun a => own X c (.lend a) :=
  (cut_any (ℓ := remL c) lent lent_nodup (fun p => cset (ch p.2.1 (nb p.1 c) p.2.2)) row (fun p n => lentN c p = n)
    (fun p t => mem_cset' _ t) (lent_inj c) (lent_cover c) fullShare).trans (Entails.of_eq (by
      unfold lent
      rw [bigSepL_flatMap]
      refine congrArg _ (funext fun a => ?_)
      rw [bigSepL_map, own_lend]; rfl))

theorem parts_join (q : Quart) (k : Fin 8) :
    (bigSepL (remParts (q, k)) fun s => remH X c q k (sh s)) ⊢ remH X c q k fullShare := by
  have h2 : iprop(remH X c q k sL ∗ remH X c q k sR) ⊢ remH X c q k fullShare :=
    (pointsTo_share (PosShare.mem_left_op_right fullShare)).2
  have h3 : iprop(remH X c q k sRL ∗ remH X c q k sRR) ⊢ remH X c q k sR :=
    (pointsTo_share (PosShare.mem_left_op_right sR)).2
  unfold remParts
  split
  · simp only [bigSepL_cons', bigSepL_nil']
    show iprop(remH X c q k sL ∗ remH X c q k sRL ∗ remH X c q k sRR ∗ emp) ⊢ _
    iintro ⟨H1, H2, H3, -⟩
    iapply h2
    isplitl [H1]; · iexact H1
    iapply h3
    isplitl [H2] <;> iassumption
  · split
    · simp only [bigSepL_cons', bigSepL_nil']
      show iprop(remH X c q k sL ∗ remH X c q k sR ∗ emp) ⊢ _
      iintro ⟨H1, H2, -⟩
      iapply h2
      isplitl [H1] <;> iassumption
    · simp only [bigSepL_cons', bigSepL_nil']
      show iprop(remH X c q k fullShare ∗ emp) ⊢ _
      iintro ⟨H, -⟩; iexact H

theorem rem_out : bigSepL remEnd (own X c) ⊢ remAny (F := F) c := by
  rw [remEnd_eq, bigSepL_flatMap]
  refine (bigSepL_mono (Ψ := fun p : Quart × Fin 8 => remH X c p.1 p.2 fullShare) fun p _ => ?_).trans ?_
  · rw [bigSepL_map]; exact parts_join X c p.1 p.2
  refine (Entails.of_eq (cut (ℓ := remL c) qk qk_nodup (fun p => cset (ch p.1 c p.2)) row (fun p n => ch p.1 c p.2 = n)
    (fun p t => mem_cset' _ t) (qk_inj c) (qk_cover c) fullShare (remV X c)).symm).trans ?_
  iintro H; iexists (remV X c); iexact H

theorem sq_in : sqAll (F := F) c ⊢ bigSepL (List.finRange 12) fun i => sqAny c i :=
  cut_any (ℓ := sqL c) _ (List.nodup_finRange 12) sqset sqrow (fun i m => i = m) mem_sqset fin_inj fin_cover fullShare
theorem sq_out (f₀ : S3072x1024.Idx → Elt F .bf16) : (bigSepL (List.finRange 12) fun i => sqAny c i) ⊢ sqAll (F := F) c :=
  join_any (ℓ := sqL c) _ (List.nodup_finRange 12) sqset sqrow (fun i m => i = m) mem_sqset fin_inj fin_cover fullShare f₀
theorem os_in : osAll (F := F) c ⊢ bigSepL (List.finRange 2) fun i => osAny c i :=
  cut_any (ℓ := osL c) _ (List.nodup_finRange 2) osset osrow (fun i m => i = m) mem_osset fin_inj fin_cover fullShare
theorem os_out (f₀ : S2x256x1024.Idx → Elt F .bf16) : (bigSepL (List.finRange 2) fun i => osAny c i) ⊢ osAll (F := F) c :=
  join_any (ℓ := osL c) _ (List.nodup_finRange 2) osset osrow (fun i m => i = m) mem_osset fin_inj fin_cover fullShare f₀

theorem out_in : outAny (F := F) c ⊢ bigSepL (List.finRange 32) fun n => own X c (.out0 n.val) :=
  cut_any (ℓ := outL c) _ (List.nodup_finRange 32) (fun n => cset (chN c n.val)) row (fun n m => chN c n.val = m) (fun n t => mem_cset' _ t)
    (chN_inj c) (chN_cover c) fullShare
theorem out_out : (bigSepL (List.finRange 32) fun n => outH X c n.val) = outAll X c :=
  (cut (ℓ := outL c) _ (List.nodup_finRange 32) (fun n => cset (chN c n.val)) row (fun n m => chN c n.val = m) (fun n t => mem_cset' _ t)
    (chN_inj c) (chN_cover c) fullShare (outV X c)).symm

end Bufs

end Cert.KernelIdeal.Hop

end
-- ==== Proof.Same.lean ====
/-
# The printed body is the run of `Proof/Steps.lean`
-/
module

public import proofs.«01_k».proof.Proof.Steps
public import proofs.«01_k».proof.Proof.Gen.KernelIdeal.Points

@[expose] public section

noncomputable section

namespace Cert.KernelIdeal.Hop

open Cert.KernelIdeal Cert.KernelIdeal.Gen
open Idealize.ShloMosaic Idealize.ShloMosaic.TcCoe
open Idealize.SL Idealize.SL.Sem

variable {F : FTy → Type} [FloatOps F]

/-- The printed body is the run written step by step: both unfold to the same operations. -/
theorem body_same (t : Fin cfg0.N) : bodyAt0 (F := F) t = bodyP := by
  chain_rfl

/-- So does what the launch calls. -/
theorem body_row (t : Fin cfg0.N) : defs₀ (F := F) .tc cfg0.body (cfg0.bodyArgs t (cfg0.slots t)) = bodyP := by
  chain_rfl

end Cert.KernelIdeal.Hop

end
-- ==== Proof.Launch.lean ====
/-
# The launch

The cells' protocols are set up on all devices at once, the tokens of the arrivals are dealt to
the devices that bring them about, each device runs its moves, and its cells are closed. The run
ends with every counter at zero, the input as it was and the result at its values.
-/
module

public import proofs.«01_k».proof.Proof.Buffers
public import proofs.«01_k».proof.Proof.Same

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ UU ℕ

theorem univ_chs : (Finset.univ : Finset Ch) = chs.toFinset := by
  ext x; simp only [Finset.mem_univ, List.mem_toFinset, mem_chs]
/-- Over all cells, listed. -/
theorem over_chs (Φ : Ch → sProp 𝕄) : bigSep Finset.univ Φ = bigSepL chs Φ := bigSep_eq_bigSepL_of_eq chs univ_chs chs_nodup Φ

theorem relist {I : Type} [DecidableEq I] {l l' : List I} (h : l.Perm l') (hn : l.Nodup) (Φ : I → sProp 𝕄) : bigSepL l Φ = bigSepL l' Φ := by
  rw [← bigSep_eq_bigSepL_of_eq l rfl hn, bigSep_eq_bigSepL_of_eq l' (List.toFinset_eq_of_perm _ _ h) (h.nodup_iff.1 hn)]

/-! ## The semaphores -/

abbrev osem (k : Fin 54) : SemLoc sig := .dma (show DmaSem sig from k)
theorem ownSemFacts : Pipeline.OwnSemFacts cfg0.spec osem := by decide
theorem sems_list : chs.map Ch.sem = (List.finRange 54).map SemLoc.dma ++ [SemLoc.reg bar] := by decide +kernel

/-- All counters of a device at zero. -/
def zeros (c : Dev nD) : sProp 𝕄 := bigSepL chs fun x => semVal (cell c x) 0

theorem zeros_eq (c : Dev nD) : (zeros c : sProp 𝕄)
    = iprop(Pipeline.ownSems0 (Ix := Unit) (Name := ℕ) (U := UU) (Lvl := ℕ) (Val := Elt F) (τ := τ) osem c ∗ unscopedSems0 c) := by
  have h1 : (Pipeline.ownSems0 (Ix := Unit) (Name := ℕ) (U := UU) (Lvl := ℕ) (Val := Elt F) (τ := τ) osem c : sProp 𝕄)
      = bigSepL ((List.finRange 54).map SemLoc.dma) fun sm => semVal ((c : Thread nD τ), sm) 0 := by
    rw [Pipeline.ownSems0_eq_of_list c osem (List.finRange 54) (by decide) (List.nodup_finRange 54), bigSepL_map]
  have h2 : (unscopedSems0 c : sProp 𝕄) = bigSepL [SemLoc.reg bar] fun sm => semVal ((c : Thread nD τ), sm) 0 := by
    unfold unscopedSems0; rw [bigSep_eq_bigSepL_of_eq [SemLoc.reg bar] (by decide) (by decide)]
  rw [h1, h2, ← bigSepL_append, ← sems_list, bigSepL_map]; rfl

section Launch
variable (X : Dev nD → S8192x1024.Idx → Elt F .f32)

/-! ## Setting up the cells -/

/-- The tokens of a device's cells: of the arrivals it brings about itself, and of those from afar. -/
def tokL : List (Ch × ℕ × D) := ownToks ++ dues.map fun p => (p.x, 0, p.d)
theorem tokL_nodup : tokL.Nodup := by decide +kernel

abbrev cellOf (p : Dev nD × Ch) : GSem nD τ sig := cell p.1 p.2
theorem cellOf_injective : Function.Injective (cellOf : Dev nD × Ch → GSem nD τ sig) := fun p p' h =>
  Prod.ext (cell_inj h).1 (cell_inj h).2
def allCells : Finset (GSem nD τ sig) := Finset.univ.map ⟨cellOf, cellOf_injective⟩

abbrev tokOf (p : Dev nD × Fin tokL.length) : GSem nD τ sig × ℕ × D :=
  (cell p.1 (tokL.get p.2).1, (tokL.get p.2).2)
theorem tokOf_injective : Function.Injective (tokOf : Dev nD × Fin tokL.length → GSem nD τ sig × ℕ × D) := fun p p' h => by
  have h1 := cell_inj (congrArg Prod.fst h)
  have h3 : (tokL.get p.2).2 = (tokL.get p'.2).2 := congrArg (fun t : GSem nD τ sig × ℕ × D => t.2) h
  have h2 : tokL.get p.2 = tokL.get p'.2 := Prod.ext h1.2 h3
  exact Prod.ext h1.1 (List.nodup_iff_injective_get.1 tokL_nodup h2)
def allToks : Finset (GSem nD τ sig × ℕ × D) := Finset.univ.map ⟨tokOf, tokOf_injective⟩

def u₀ : UU :=
  (initOf (Pipeline.cells cfgs cellOf_inj) (Pipeline.launchToks cfgs cellOf_inj), initOf allCells allToks)

/-- The tokens of a device's cells. -/
def toks (c : Dev nD) : sProp 𝕄 := bigSepL tokL fun t => dutyTok ER (cell c t.1) t.2.1 t.2.2

/-- What a device is given: its cells before their protocols are set up, its positions, its tokens. -/
def G (c : Dev nD) : sProp 𝕄 :=
  iprop((bigSep Finset.univ fun x : Ch => roundState ER (Rd X) (cell c x) 0)
    ∗ (bigSep Finset.univ fun x : Ch => posH c x 0) ∗ toks c)

theorem fund_cells : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun x : Ch => Φ (cell c x) := by
    unfold allCells; rw [bigSep_map, bigSep_univ_prod]; rfl
  have hT : bigSep allToks (fun t => (dutyTok ER t.1 t.2.1 t.2.2 : sProp 𝕄)) = bigSep Finset.univ fun c : Dev nD => toks c := by
    unfold allToks; rw [bigSep_map, bigSep_univ_prod]
    refine bigSep_congr fun c _ => ?_
    unfold toks
    rw [bigSep_univ_eq_bigSepL (List.finRange tokL.length) (by ext; simp) (List.nodup_finRange _)]
    refine Eq.trans ?_ (congrArg (fun l => bigSepL l fun t : Ch × ℕ × D => (dutyTok ER (cell c t.1) t.2.1 t.2.2 : sProp 𝕄)) (List.map_get_finRange tokL))
    rw [bigSepL_map]; rfl
  iintro HX
  imod (Rounds.fund ER (Rd X) allCells allToks) $$ HX with ⟨Hst, Hr, Hat, Htok⟩
  imodintro
  ihave Hst := (Entails.of_eq (hX fun g => roundState ER (Rd X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posH; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun x => iprop(∃ κ : ℕ, cellInv ER (Rd X) κ (cell c x)))
          ∗ (bigSep Finset.univ fun x => posH c x 0) ∗ toks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun x : Ch => semVal (cell c x) 0 : sProp 𝕄) from by rw [over_chs, ← zeros_eq]; exact .rfl) $$ [Hos Hus]
  · isplitl [Hos] <;> iassumption
  imod (show iprop((bigSep Finset.univ fun x : Ch => semVal (cell c x) 0) ∗ bigSep Finset.univ fun x : Ch => roundState ER (Rd X) (cell c x) 0)
      ⊢ (|={Set.univ}=> bigSep Finset.univ fun x => iprop(∃ κ : ℕ, cellInv ER (Rd X) κ (cell c x)) : sProp 𝕄) from by
        rw [← bigSep_sep']
        exact (bigSep_mono fun x _ => (Rounds.body_intro ER (Rd X) (cell c x)).trans inv_alloc).trans (bigSep_fupd _ _)) $$ [Hv Hst] with Hinv
  · isplitl [Hv] <;> iassumption
  imodintro
  isplitl [Hinv]; · iexact Hinv
  isplitl [Hat]; · iexact Hat
  iexact Htok

/-- What is known of all cells but for the order of the waits. -/
def known (K : Dev nD × Ch → ℕ) : sProp 𝕄 :=
  iprop((bigSep Finset.univ fun p : Dev nD × Ch => cellInv ER (Rd X) (K p) (cell p.1 p.2))
    ∗ (bigSep Finset.univ fun p : Dev nD × Ch => reached ER (cell p.1 p.2) 0))
instance (K : Dev nD × Ch → ℕ) : BI.Persistent (known X K) := by unfold known; infer_instance

/-- What stays with a device: its positions, its own tokens, and the tokens of the arrivals it owes. -/
def kept (c : Dev nD) : sProp 𝕄 :=
  iprop((bigSep Finset.univ fun x => posH (F := F) c x 0) ∗ (bigSepL ownToks fun t => dutyTok ER (cell c t.1) t.2.1 t.2.2)
    ∗ bigSepL dues fun p => dutyTok ER (cell (nb p.a c) p.x) 0 p.d)
def G' (c : Dev nD) : sProp 𝕄 := iprop(∃ K, known X K ∗ kept (F := F) c)

theorem over_list {I : Type} (l : List I) (Φ : Dev nD → I → sProp 𝕄) :
    (bigSep Finset.univ fun c => bigSepL l (Φ c)) = bigSepL l fun i => bigSep Finset.univ fun c => Φ c i := by
  induction l with
  | nil => simp only [bigSepL_nil']; exact bigSep_emp_const _
  | cons i l ih => simp only [bigSepL_cons']; rw [bigSep_sep', ih]

/-- The neighbour, both ways. -/
def nbE (a : Fin 3) : Dev nD ≃ Dev nD := ⟨nb a, nb a, nb_nb a, nb_nb a⟩

/-- The tokens go to the devices that bring the arrivals about. -/
theorem toks_dealt : (bigSep Finset.univ fun c : Dev nD => (toks c : sProp 𝕄))
    ⊢ bigSep Finset.univ fun c : Dev nD => iprop((bigSepL ownToks fun t => dutyTok ER (cell c t.1) t.2.1 t.2.2)
      ∗ bigSepL dues fun p => dutyTok ER (cell (nb p.a c) p.x) 0 p.d) := by
  unfold toks tokL
  simp only [bigSepL_append, bigSepL_map]
  rw [bigSep_sep', bigSep_sep']
  refine sep_mono_right (Entails.of_eq ?_)
  rw [over_list, over_list]
  refine congrArg _ (funext fun p => ?_)
  exact bigSep_univ_equiv (nbE p.a) fun c => (dutyTok ER (cell c p.x) 0 p.d : sProp 𝕄)

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem pos_known (c : Dev nD) (x : Ch) : (posH c x 0 : sProp 𝕄) ⊢ iprop(posH c x 0 ∗ reached ER (cell c x) 0) := by
  unfold posH
  iintro ⟨H, #Hr⟩
  isplitl [H]
  · isplitl [H]; · iexact H
    iexact Hr
  iexact Hr

theorem regroup :
    (bigSep Finset.univ fun c : Dev nD => iprop((bigSep Finset.univ fun x => iprop(∃ κ : ℕ, cellInv ER (Rd X) κ (cell c x)))
          ∗ (bigSep Finset.univ fun x => posH c x 0) ∗ toks c) : sProp 𝕄)
      ⊢ bigSep Finset.univ (G' X) := by
  rw [bigSep_sep', bigSep_sep', ← bigSep_univ_prod (fun p : Dev nD × Ch => iprop(∃ κ : ℕ, cellInv ER (Rd X) κ (cell p.1 p.2)))]
  iintro ⟨HI, Hat, Htok⟩
  ihave HK := (BI.bigSep_exists_pi Finset.univ (fun (p : Dev nD × Ch) (κ : ℕ) => (cellInv ER (Rd X) κ (cell p.1 p.2) : sProp 𝕄))) $$ HI
  icases HK with ⟨%K, #HI⟩
  ihave Hat := (show (bigSep Finset.univ fun c : Dev nD => bigSep Finset.univ fun x : Ch => (posH c x 0 : sProp 𝕄))
      ⊢ iprop((bigSep Finset.univ fun c : Dev nD => bigSep Finset.univ fun x : Ch => (posH c x 0 : sProp 𝕄))
        ∗ bigSep Finset.univ fun p : Dev nD × Ch => reached ER (cell p.1 p.2) 0) from by
    rw [bigSep_univ_prod, ← bigSep_sep']
    refine bigSep_mono fun c _ => ?_
    rw [← bigSep_sep']
    exact bigSep_mono fun x _ => pos_known c x) $$ Hat
  icases Hat with ⟨Hat, #HR⟩
  ihave Htk := (toks_dealt (F := F)) $$ Htok
  iapply (with_known (R := known X K) (Φ := kept (F := F)) fun c _ => show iprop(known X K ∗ kept (F := F) c) ⊢ G' X c from by
    unfold G'; iintro H; iexists K; iexact H)
  isplitr
  · unfold known; isplitl; · iexact HI
    iexact HR
  · iapply (show iprop((bigSep Finset.univ fun c : Dev nD => bigSep Finset.univ fun x : Ch => (posH c x 0 : sProp 𝕄))
        ∗ bigSep Finset.univ fun c : Dev nD => iprop((bigSepL ownToks fun t => dutyTok ER (cell c t.1) t.2.1 t.2.2)
          ∗ bigSepL dues fun p => dutyTok ER (cell (nb p.a c) p.x) 0 p.d)) ⊢ bigSep Finset.univ (kept (F := F)) from by
      rw [← bigSep_sep']; exact .rfl)
    isplitl [Hat]; · iexact Hat
    iexact Htk

/-- Everything set up, on all devices at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credit for what the others owe -/

abbrev O₀ (c : Dev nD) : CellTallies nD τ sig Unit := owed c dues

theorem nb_eq_iff (a : Fin 3) (c d : Dev nD) : c = nb a d ↔ d = nb a c :=
  ⟨fun h => by rw [h, nb_nb], fun h => by rw [h, nb_nb]⟩

/-- What all devices together owe a cell. -/
theorem owed_sum (c : Dev nD) (x : Ch) : ∀ l : List Due,
    (∑ d : Dev nD, owed d l (cell c x) ()) = (l.map fun p => if p.x = x then amountC x 0 else 0).sum
  | [] => by
    refine Finset.sum_eq_zero fun d _ => ?_
    rfl
  | p :: l => by
    unfold owed
    rw [List.map_cons, List.sum_cons, ← owed_sum c x l, Nat.add_comm, Finset.sum_congr rfl fun d _ => (by
      rw [Pi.add_apply, Finsupp.add_apply, tallyAt_apply] : _ = owed d l (cell c x) () + _), Finset.sum_add_distrib]
    congr 1
    by_cases hx : p.x = x
    · subst hx
      rw [if_pos rfl, Finset.sum_congr rfl fun d _ => (show _ = if d = nb p.a c then amountC p.x 0 else 0 from by
        by_cases h : d = nb p.a c
        · rw [if_pos h, if_pos ⟨by rw [h, nb_nb], rfl⟩]
        · rw [if_neg h, if_neg fun e => h ((nb_eq_iff _ _ _).1 (cell_inj e.1).1)]), Finset.sum_ite_eq' Finset.univ (nb p.a c) fun _ => amountC p.x 0,
        if_pos (Finset.mem_univ _)]
    · rw [if_neg hx]
      exact Finset.sum_eq_zero fun d _ => if_neg fun e => hx (cell_inj e.1).2.symm

/-- The credit of a cell. -/
def credN (x : Ch) : ℕ := (dues.map fun p => if p.x = x then amountC x 0 else 0).sum
theorem credN_recvs : ∀ x ∈ recvs, credN x = amountC x 0 := by decide +kernel
theorem credN_ready : credN .ready = 3 := by decide +kernel

theorem launch_cell (c : Dev nD) (x : Ch) :
    tallyOn (cell c x) (launchCredit (Pipeline.owing O₀) 0 (cell c x)) = (tallyAt (cell c x) () (credN x) : CellTallies nD τ sig Unit) := by
  unfold tallyAt; refine congrArg _ (Finsupp.ext fun u => ?_); cases u
  rw [Pipeline.launchCredit_owing, Finsupp.single_eq_same]
  exact owed_sum c x dues

/-- The semaphores are the cells. -/
theorem sem_dec (sm : SemLoc sig) : (dec sm).sem = sm := by
  rcases sm with n | n
  · revert n; decide +kernel
  · revert n; decide +kernel
def semE : Ch ≃ SemLoc sig := ⟨Ch.sem, dec, dec_sem, sem_dec⟩

def others : List Ch := chs.filter fun x => x ∉ recvs ∧ x ≠ .ready
theorem chs_perm : chs.Perm (recvs ++ .ready :: others) := by decide +kernel
theorem chs_perm' : chs.Perm (plain ++ (List.finRange 3).map .fwd) := by decide +kernel

theorem creds (c : Dev nD) :
    (Pipeline.launchCred O₀ c : sProp 𝕄) ⊢ iprop((bigSepL recvs fun x => cred (tallyAt (cell c x) () (amountC x 0)))
      ∗ cred (tallyAt (cell c .ready) () 3)) := by
  unfold Pipeline.launchCred
  rw [bigSep_univ_equiv semE]
  refine (Entails.of_eq (bigSep_congr (Ψ := fun x : Ch => (cred (tallyAt (cell c x) () (credN x)) : sProp 𝕄))
    fun x _ => congrArg (fun t => cred t) (launch_cell c x))).trans ?_
  rw [over_chs, relist chs_perm chs_nodup, bigSepL_append, bigSepL_cons', credN_ready]
  iintro ⟨H, H3, -⟩
  isplitl [H]
  · iapply (show (bigSepL recvs fun x => cred (tallyAt (cell c x) () (credN x)) : sProp 𝕄) ⊢ bigSepL recvs fun x => cred (tallyAt (cell c x) () (amountC x 0)) from
      bigSepL_mono fun x hx => by rw [credN_recvs x hx])
    iexact H
  iexact H3

end Launch

end Cert.KernelIdeal.Hop

end
-- ==== Proof.Run.lean ====
/-
# The run on the mesh

From what the launch gives a device come the holdings its moves start with; from those they end
with, its buffers whole and its counters at zero.
-/
module

public import proofs.«01_k».proof.Proof.Launch
public import Idealize.ShloMosaic.Lib.Pipeline.CollectiveSegs
public import Idealize.ShloMosaic.Lib.Quiescent

@[expose] public section

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ UU ℕ

section Run
variable (X : Dev nD → S8192x1024.Idx → Elt F .f32)

/-! ## The beginning -/

theorem part_zero (c : Dev nD) (a : Fin 3) : (posH c (.fwd a) 0 : sProp 𝕄) ⊢ partH X c a 0 := by
  unfold posH partH
  iintro ⟨H, -⟩
  iexists ∅
  isplitr; · ipureintro; exact Finset.empty_subset _
  rw [Nat.zero_mul, bigSep_empty]
  isplitl [H]; · iexact H
  iempintro

theorem pos_in (c : Dev nD) : (bigSep Finset.univ fun x => posH (F := F) c x 0)
    ⊢ iprop((bigSepL plain fun x => posH c x 0) ∗ bigSepL (List.finRange 3) fun a => partH X c a 0) := by
  rw [over_chs, relist chs_perm' chs_nodup, bigSepL_append, bigSepL_map]
  exact sep_mono_right (bigSepL_mono fun a _ => part_zero X c a)

/-- The buffers before the run. -/
def bufs (c : Dev nD) : sProp 𝕄 :=
  iprop(xAll X c ∗ outAny (F := F) c ∗ locAny (F := F) c ∗ remAny (F := F) c ∗ sqAll (F := F) c ∗ osAll (F := F) c)

theorem atoms_in (c : Dev nD) : iprop(bufs X c ∗ kept (F := F) c ∗ (bigSepL recvs fun x => cred (tallyAt (cell c x) () (amountC x 0)))
    ∗ cred (tallyAt (cell c .ready) () 3)) ⊢ bigSepL atoms₀ (own X c) := by
  unfold bufs kept atoms₀
  simp only [List.append_assoc, bigSepL_append, bigSepL_map, bigSepL_cons', bigSepL_nil']
  iintro ⟨⟨Hx, Ho, Hl, Hm, Hs, Ht⟩, ⟨Hp, Hk, Hd⟩, Hc, H3⟩
  ihave Hx := (Entails.of_eq (x_pieces X c)) $$ Hx
  icases Hx with ⟨Hx, Hxb⟩
  ihave Hl := (loc_in X c) $$ Hl
  icases Hl with ⟨Hl, Hlb⟩
  ihave Hm := (rem_in X c) $$ Hm
  ihave Hs := (sq_in c) $$ Hs
  ihave Ht := (os_in c) $$ Ht
  ihave Ho := (out_in X c) $$ Ho
  ihave Hp := (pos_in X c) $$ Hp
  icases Hp with ⟨Hp, Hq⟩
  isplitl [Hx]; · iexact Hx
  isplitl [Hxb]; · iexact Hxb
  isplitl [Hl]; · iexact Hl
  isplitl [Hlb]; · iexact Hlb
  isplitl [Hm]; · iexact Hm
  isplitl [Hs]; · iexact Hs
  isplitl [Ht]; · iexact Ht
  isplitl [Ho]; · iexact Ho
  isplitl [Hk]; · iexact Hk
  isplitl [Hd]; · iexact Hd
  isplitl [Hp]; · iexact Hp
  isplitl [Hq]; · iexact Hq
  isplitl [Hc]; · iexact Hc
  isplitl [H3]; · iapply (show (cred (tallyAt (cell c .ready) () 3) : sProp 𝕄) ⊢ own X c .meetCred from .rfl); iexact H3
  iempintro

/-! ## The end -/

/-- The buffers after the run. -/
def bufs' (c : Dev nD) : sProp 𝕄 :=
  iprop(xAll X c ∗ outAll X c ∗ locAny (F := F) c ∗ remAny (F := F) c ∗ sqAll (F := F) c ∗ osAll (F := F) c)

/-- Some value of the result's type. -/
def someV : Elt F .bf16 := FloatOps.truncf (F := F) (φ := .f32) .bf16 bitsLt_bf16_f32 (X 0 fun a => ⟨0, by revert a; decide⟩)

theorem locs_list : ([Quart.own, .y, .za, .zb].flatMap fun q => (List.finRange 8).map fun k => Atom.loc q k) = qk.map fun p => .loc p.1 p.2 := by
  decide

theorem atoms_out (c : Dev nD) : bigSepL atoms₁ (own X c) ⊢ iprop(bufs' X c ∗ bigSepL chs fun x => posH c x (rounds x)) := by
  unfold bufs' atoms₁
  rw [locs_list]
  simp only [List.append_assoc, bigSepL_append, bigSepL_map]
  iintro ⟨Hx, Hxb, Hl, Hm, Hs, Ht, Ho, Hp⟩
  isplitr [Hp]
  · isplitl [Hx Hxb]
    · iapply (Entails.of_eq (x_pieces X c).symm)
      isplitl [Hx]; · iexact Hx
      iexact Hxb
    isplitl [Ho]; · iapply (Entails.of_eq (out_out X c)); iexact Ho
    isplitl [Hl]; · iapply (loc_out X c); iexact Hl
    isplitl [Hm]; · iapply (rem_out X c); iexact Hm
    isplitl [Hs]; · iapply (sq_out c fun _ => someV X); iexact Hs
    iapply (os_out c fun _ => someV X); iexact Ht
  iexact Hp

/-- All cells closed: their counters are at zero. -/
theorem close_all (K : Dev nD × Ch → ℕ) (c : Dev nD) :
    iprop(records X K ∗ bigSepL chs fun x => posH c x (rounds x)) ⊢ |={Set.univ}=> (zeros c : sProp 𝕄) := by
  unfold zeros
  rw [← over_chs, ← over_chs]
  refine (with_known (Ψ := fun x => iprop(|={Set.univ}=> (semVal (cell c x) 0 : sProp 𝕄))) fun x _ => ?_).trans (bigSep_fupd _ _)
  unfold posH
  iintro ⟨#HR, Hat, -⟩
  iapply (Rounds.cell_close ER (Rd X) (Set.mem_univ (K (c, x))) (fun h => h) (R := rounds x) (fun r hr => by
    rw [duties_cell]; exact duties_over x hr))
  isplitr; · iapply (records_inv X K c x); iexact HR
  iexact Hat

/-! ## The body -/

/-- What a device starts with but its scratch buffers, `f` the first contents of its result. -/
def start (c : Dev nD) (f : S8192x1024.Idx → Elt F .bf16) : sProp 𝕄 :=
  iprop(G' X c ∗ xAll X c ∗ outP c Finset.univ fullShare f ∗ levAts L lv ∗ (bigSepL recvs fun x => cred (tallyAt (cell c x) () (amountC x 0)))
    ∗ cred (tallyAt (cell c .ready) () 3))

def Φ₀ (c : Dev nD) (f : S8192x1024.Idx → Elt F .bf16) : sProp 𝕄 :=
  iprop(start X c f ∗ locAny (F := F) c ∗ remAny (F := F) c ∗ sqAll (F := F) c ∗ osAll (F := F) c)
def Φ₁ (c : Dev nD) : sProp 𝕄 := iprop(zeros c ∗ bufs' X c)

theorem body_run (K : Dev nD × Ch → ℕ) (c : Dev nD) :
    iprop(records X K ∗ bigSepL atoms₀ (own X c) ∗ Ow c dues) ⊢ Runs c (mainP c) fun _ => iprop(|={Set.univ}=> iprop(Φ₁ X c ∗ Ow c [])) := by
  iintro ⟨#HR, Ha, HO⟩
  iapply (main_sound X K c (sound_all X K c) fun _ => iprop(|={Set.univ}=> iprop(Φ₁ X c ∗ Ow c []))) $$ [Ha HO]
  · isplitr; · iexact HR
    isplitl [Ha] <;> iassumption
  iintro ⟨Ha, HO⟩
  ihave Ha := (atoms_out X c) $$ Ha
  icases Ha with ⟨Hb, Hp⟩
  imod (close_all X K c) $$ [Hp] with Hz
  · isplitr; · iexact HR
    iexact Hp
  imodintro
  unfold Φ₁
  isplitr [HO]
  · isplitl [Hz] <;> iassumption
  iexact HO

theorem runs_fupd (c : Dev nD) (P : PG F) (Q : PUnit → sProp 𝕄) :
    Runs c P (fun x => iprop(|={Set.univ}=> Q x)) ⊢ Runs c P Q := wp_fupd _ _ _ _ _
theorem runs_mono (c : Dev nD) (P : PG F) {Q Q' : PUnit → sProp 𝕄} (h : ∀ a, Q a ⊢ Q' a) : Runs c P Q ⊢ Runs c P Q' := wp_mono _ _ _ h
theorem runs_body (c : Dev nD) (P : Dev nD → PG F) (Q : PUnit → sProp 𝕄) :
    Runs c ((Prog.lift .deviceId : Prog (TpuEff nD τ sig (Elt F) Λ₀ .tc) (Dev nD)) >>= P) Q = Runs c (P c) Q := by
  unfold Runs
  show wp frame (wpE (defs₀ (F := F)) 𝒱₀ (c : Thread nD τ) none) Set.univ (.op .deviceId P) Q = _
  rw [wp_deviceId]

theorem body_sound (c : Dev nD) (f : S8192x1024.Idx → Elt F .bf16) :
    iprop(Φ₀ X c f ∗ Ow c dues) ⊢ Runs c (bodyP (F := F)) fun _ => iprop(Φ₁ X c ∗ Ow c []) := by
  unfold bodyP
  rw [runs_body]
  refine .trans ?_ (runs_fupd c (mainP c) _)
  unfold Φ₀ start G'
  iintro ⟨⟨⟨⟨%K, Hk, Hkept⟩, Hx, Ho, Hlv, Hc, H3⟩, Hl, Hm, Hs, Ht⟩, HO⟩
  iapply (body_run X K c)
  isplitl [Hk Hlv]
  · unfold known records
    icases Hk with ⟨H1, H2⟩
    isplitl [H1]; · iexact H1
    isplitl [H2] <;> iassumption
  isplitr [HO]
  · iapply (atoms_in X c)
    unfold bufs
    isplitl [Hx Ho Hl Hm Hs Ht]
    · isplitl [Hx]; · iexact Hx
      isplitl [Ho]; · (unfold outAny; iexists f; iexact Ho)
      isplitl [Hl]; · iexact Hl
      isplitl [Hm]; · iexact Hm
      isplitl [Hs] <;> iassumption
    isplitl [Hkept]; · iexact Hkept
    isplitl [Hc] <;> iassumption
  iexact HO

end Run

/-! ## The launch -/

section Start
variable (m : (ℓ : Loc nD τ sig) → Buf (Elt F) ℓ) (ρ : Dev nD → PrngReg)

/-- The argument on each device, and the first contents of its result. -/
def argOf (m : (ℓ : Loc nD τ sig) → Buf (Elt F) ℓ) (d : Dev nD) : S8192x1024.Idx → Elt F .f32 := m ((d : Thread nD τ).loc main_arg0)
def resOf (m : (ℓ : Loc nD τ sig) → Buf (Elt F) ℓ) (d : Dev nD) : S8192x1024.Idx → Elt F .bf16 := m ((d : Thread nD τ).loc main_v1)

def dats (_ : Fin 1) (c : Dev nD) : Dat τ (Elt F) Unit ℕ UU ℕ cfg0 c where
  A w := w.elim0
  after w _ := w.elim0
  Φ t := match t with
    | ⟨0, _⟩ => Φ₀ (argOf m) c (resOf m c)
    | ⟨_ + 1, _⟩ => Φ₁ (argOf m) c
  q _ := fullShare
  owed t := match t with
    | ⟨0, _⟩ => O₀ c
    | ⟨_ + 1, _⟩ => 0

set_option maxRecDepth 8000 in
theorem body_obligation (c : Dev nD) : BodyObligationLoose (dats m 0 c) (defs₀ (F := F)) 𝒱₀ () Set.univ := fun t => by
  rw [fin_N0 t]
  rw [body_row]
  rw [show (dats m 0 c).Φ t0_0.castSucc = Φ₀ (argOf m) c (resOf m c) from rfl, show (dats m 0 c).Φ t0_0.succ = Φ₁ (argOf m) c from rfl]
  have h := body_sound (argOf m) c (resOf m c)
  revert h
  generalize (bodyP : PG F) = P
  intro h
  refine .trans ?_ (h.trans (runs_mono c P fun _ => ?_))
  · unfold Dat.owesAt Pipeline.owesWithin Ow
    iintro ⟨HΦ, ⟨%W, -, HO⟩, -⟩
    isplitl [HΦ]; · iexact HΦ
    iexists W; iexact HO
  · unfold Dat.owesAt Pipeline.owesWithin Ow
    iintro ⟨HΦ, %W, HO⟩
    isplitl [HΦ]; · iexact HΦ
    isplitl [HO]
    · iexists W
      isplitr; · ipureintro; exact fun _ _ => Or.inl trivial
      iexact HO
    rw [show (Finset.univ : Finset (Fin cfg0.W)) = ∅ from rfl, bigSep_empty]
    iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argOf m) c)
      ⊢ |={Set.univ}=> iprop(start (argOf m) c (resOf m c) ∗ emp) := by
  iintro ⟨Hr, Hlev, Hcr, -, HG⟩
  ihave Hc := (creds (F := F) c) $$ Hcr
  icases Hc with ⟨H1, H3⟩
  imodintro
  unfold start
  isplitl
  · isplitl [HG]; · iexact HG
    ihave Hr := (show Pipeline.unscopedRestP Pipeline.Prefetch.none cfg0.spec c (fun b => m ((c : Thread nD τ).loc b))
        ⊢ iprop(xAll (argOf m) c ∗ outP (F := F) c Finset.univ fullShare (resOf m c)) from by
      unfold xAll xP outP
      rw [Pipeline.unscopedRestP_none]
      exact Entails.of_eq (unscopedRest0_eq c fun b => m ((c : Thread nD τ).loc b))) $$ Hr
    icases Hr with ⟨Hx, Ho⟩
    isplitl [Hx]; · iexact Hx
    isplitl [Ho]; · iexact Ho
    isplitl [Hlev]; · iexact Hlev
    isplitl [H1] <;> iassumption
  · iempintro

theorem phi0_intro (c : Dev nD) :
    iprop(start (argOf m) c (resOf m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (argOf m) c (resOf m c) from rfl, scopedRest0_eq]
  unfold Φ₀ locAny remAny sqAll osAll
  iintro ⟨Hs, -, Hl, Hm, Hq, Ht⟩
  isplitl [Hs]; · iexact Hs
  isplitl [Hl]; · iexact Hl
  isplitl [Hm]; · iexact Hm
  isplitl [Hq] <;> iassumption

/-- What a device leaves outside its scratch buffers and its own semaphores. -/
def left (c : Dev nD) : sProp 𝕄 := iprop(unscopedSems0 c ∗ xAll (argOf m) c ∗ outAll (argOf m) c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ (argOf m) c from rfl, scopedRest0_eq]
  unfold Φ₁ bufs' left locAny remAny sqAll osAll
  rw [zeros_eq]
  iintro ⟨⟨Hs, Hu⟩, Hx, Ho, Hl, Hm, Hq, Ht⟩
  isplitl [Hu Hx Ho]
  · isplitl [Hu]; · iexact Hu
    isplitl [Hx] <;> iassumption
  isplitl [Hs]; · iexact Hs
  isplitl [Hl]; · iexact Hl
  isplitl [Hm]; · iexact Hm
  isplitl [Hq] <;> iassumption

theorem waits (c : Dev nD) : (levAts L lv : sProp 𝕄) ⊢ Pipeline.cellsWaits cfgs (dats m) () 0 c :=
  Pipeline.cellsWaits_intro cfgs (dats m) () 0 c fun w => w.elim0

/-- What is read of a device's memory at the end. -/
def QY (c : Dev nD) (s : MemSt nD τ sig (Elt F)) : Prop :=
  (s.mem ((c : Thread nD τ).loc main_arg0) = m ((c : Thread nD τ).loc main_arg0)
    ∧ s.mem ((c : Thread nD τ).loc main_v1) = outV (argOf m) c)
  ∧ ∀ sm : SemLoc sig, sm.isScoped .tc = false → s.sem ((c.tc : Thread nD τ), sm) = 0

theorem left_read (c : Dev nD) (s' : Phys nD τ sig (Elt F)) :
    iprop(left m c ∗ emp ∗ SI s') ⊢ |={Set.univ}=> iprop(⌜QY m c s'.mem⌝ ∗ SI s') := by
  unfold left xAll outAll xP outP
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨⟨Buf.eq_of_forall_mem_univ hx, Buf.eq_of_forall_mem_univ ho⟩, hu⟩
  iexact HSI

theorem main_step (c : Dev nD) : main (F := F) c = .op (.customCall (Pipeline.entry 0) ()) fun _ => .ret ⟨⟩ := rfl

theorem launch_parts : (ownU u₀ : sProp 𝕄) ⊢ |={Set.univ}=> iprop(BI.own (EP (initOf (Pipeline.cells cfgs cellOf_inj) (Pipeline.launchToks cfgs cellOf_inj)))
    ∗ bigSep Finset.univ (G (argOf m))) := by
  unfold u₀
  iintro Hu
  ihave H := (ownU_pair _ _) $$ Hu
  icases H with ⟨HP, HX⟩
  imod (fund_cells (argOf m)) $$ HX with HG
  imodintro
  isplitl [HP] <;> iassumption

set_option maxRecDepth 8000 in
/-- On the mesh of eight devices, over any float values, from any memory with zero counters: every
    weakly fair run of the program ends; at the end each device's argument is as it was, its result is
    its own block plus the other half's, and every semaphore counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_v1) = outV (argOf m) c) ∧ r.2.sem = fun _ => 0) :=
by
  unfold defs
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (O₀ := O₀) (L := L) (lv := lv) (G := G (argOf m)) (G' := G' (argOf m)) (u₀ := u₀)
    (X := fun c => start (argOf m) c (resOf m c)) (Y := left m) (Z := fun _ => iprop(emp)) (QY := QY m)
    ?_ ?_ ?_ ?_ ?_ ?_ ?_ ?_ ?_ ?_ ?_ ?_ ?_ ?_ ?_ ?_ ?_ ?_ ?_ ?_
  · exact main_step
  · exact body_obligation m
  · exact fun w => w.elim0
  · exact arr_whole0
  · exact stage_whole0
  · exact fun _ w => w.elim0
  · exact winFacts0.arr_inj
  · exact fun _ => rfl
  · exact fun _ => rfl
  · exact L_of_ne
  · exact waits m
  · exact launch_parts m
  · exact glob (argOf m)
  · exact fun _ w => w.elim0
  · exact fun _ k => k.elim0
  · exact start_intro m ρ
  · exact phi0_intro m
  · exact phi1_exit m
  · exact left_read m
  · exact fun _ h hs => ⟨fun c => (h c).2.2.1, sem_eq_zero hs fun c => (h c).2.2.2⟩

end Start

end Cert.KernelIdeal.Hop

end
-- ==== Proof.Reference.lean ====
/-
# The run of the reference

On its one device the reference folds the argument's two halves onto each other, adds them and
rounds the sum.
-/
module

public import proofs.«01_k».proof.Proof.Gen.ReferenceIdeal
public import Idealize.ShloMosaic.Lib.StableHlo.Run
public import Idealize.ShloMosaic.Lib.Pipeline.Value
public import Idealize.ShloMosaic.Lib.IdealHost
public import Idealize.ShloMosaic.Lib.Pointwise.Reduce

@[expose] public section

noncomputable section

namespace Cert.ReferenceIdeal.Fold

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its argument. -/
def sumOf (x : FVec F S16384x1024 .f32) : FVec F S8192x1024 .bf16 :=
  truncf .bf16 (Host.reduceAdd (shapeCast S2x8192x1024 x shapeCasts_S16384x1024_S2x8192x1024)
    (constant S_ .f32 0x00000000#32) reducesTo_S2x8192x1024_S8192x1024_d0 h_S_) bitsLt_bf16_f32

/-- The operations, in order. -/
abbrev ops : List (HloOp τ sig (Elt F)) :=
  [ StableHlo.reshape main_arg0 main_v0 (rfl : (.f32 : EltTy) = .f32) shapeCasts_S16384x1024_S2x8192x1024,
    StableHlo.nullary main_cst (constant S_ .f32 0x00000000#32),
    StableHlo.binary main_v0 main_cst main_v1 (fun x v => Host.reduceAdd x v reducesTo_S2x8192x1024_S8192x1024_d0 h_S_),
    StableHlo.unary main_v1 main_v2 (truncf .bf16 · bitsLt_bf16_f32) ]

theorem main_line (c : Dev nD) : main (F := F) c = seq ops := rfl

theorem result_left (V : Valuation τ sig (Elt F)) : after ops V (main_v2 : DevRef τ sig) = sumOf (V (main_arg0 : DevRef τ sig)) := by
  after_results
  rfl

theorem arg_left (V : Valuation τ sig (Elt F)) : after ops V (main_arg0 : DevRef τ sig) = V (main_arg0 : DevRef τ sig) := by
  after_results

theorem no_scoped : (Finset.univ.filter fun b : Ref sig .tc => b.isScoped) = ∅ := by decide
theorem no_scoped_sem : (Finset.univ.filter fun sm : SemLoc sig => sm.isScoped .tc) = ∅ := by decide
/-- The reference has no semaphores. -/
theorem no_sem (sm : SemLoc sig) : False := by rcases sm with n | n <;> exact n.elim0

theorem ops_within : (ops : List (HloOp τ sig (Elt F))).Forall fun op => op.bufs ⊆ tcRefs τ sig :=
  ⟨reshape_bufs_sub .., nullary_bufs_sub .., binary_bufs_sub .., unary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_v2) = sumOf (m ((c.tc : Thread nD τ).loc main_arg0)))
      ∧ r.2.sem = fun _ => 0 :=
  (θ_run defs _ _).mono (fun _ h => ⟨fun c => ⟨(h c main_arg0).trans (arg_left _), (h c main_v2).trans (result_left _)⟩,
      funext fun g => (no_sem g.2).elim⟩)
    (run_seq no_scoped no_scoped_sem defs main (fun _ => ops) main_line (fun _ => ops_within) m ρ)

/-! ## The sum at a place, over exact numbers -/

/-- Row `r` of half `h`. -/
def at_half (h : Fin 2) (i : S8192x1024.Idx) : S16384x1024.Idx
  | ⟨0, _⟩ => ⟨h.val * 8192 + (i 0).val, by have := (i 0).isLt; change (i 0).val < 8192 at this; show _ < 16384; omega⟩
  | ⟨1, _⟩ => ⟨(i 1).val, (i 1).isLt⟩

theorem fold_apply (x : S16384x1024.Idx → EReal) (j : S2x8192x1024.Idx) (h : Fin 2) (i : S8192x1024.Idx)
    (h0 : (j 0).val = h.val) (h1 : (j 1).val = (i 0).val) (h2 : (j 2).val = (i 1).val) :
    shapeCast S2x8192x1024 x shapeCasts_S16384x1024_S2x8192x1024 j = x (at_half h i) := by
  refine shapeCast_apply _ _ _ _ ?_
  rw [Shape.rowMajor_val_two, Shape.rowMajor_val_three, h0, h1, h2]
  show (h.val * 8192 + (i 0).val) * 1024 + (i 1).val = (h.val * 8192 + (i 0).val) * 1024 + (i 1).val
  rfl

theorem sumOf_apply (x : S16384x1024.Idx → EReal) (i : S8192x1024.Idx) :
    sumOf (F := Ideal) x i = x (at_half 0 i) + x (at_half 1 i) := by
  unfold sumOf
  show Host.reduceAdd (F := Ideal) _ _ _ _ i = _
  rw [ValueIdx.hostReduceAdd_apply, Ideal.hostReduceAdd_r3_a0, Fin.sum_univ_two,
    fold_apply x _ 0 i rfl rfl rfl, fold_apply x _ 1 i rfl rfl rfl]
  show Ideal.ofBits .f32 0x00000000#32 + _ = _
  rw [Ideal.ofBits_zero_f32, zero_add]

end Cert.ReferenceIdeal.Fold

end
-- ==== Proof.Result.lean ====
/-
# The result is the reference's

Device `c` holds half `c / 4` of the argument. Its result is its own block plus a block of a device
across `x`, so both halves' sum, on every device.
-/
module

public import proofs.«01_k».proof.Proof.Run
public import proofs.«01_k».proof.Proof.Reference
public import Idealize.ShloMosaic.Lib.Layout

@[expose] public section

noncomputable section

namespace Cert.KernelIdeal.Hop

open Cert.KernelIdeal Cert.KernelIdeal.Gen
open Idealize.ShloMosaic Idealize.ShloMosaic.TcCoe
open Cert.ReferenceIdeal.Fold (sumOf at_half sumOf_apply)

/-- The half of the argument device `c` holds. -/
def half (c : Dev nD) : Fin 2 := ⟨c.val / 4, by have := c.isLt; change c.val < 8 at this; omega⟩

abbrev blockOf (x : (⟨2, ![16384, 1024]⟩ : Shape).Idx → EReal) (c : Dev nD) : S8192x1024.Idx → EReal :=
  Layout.blockN ⟨2, ![8192, 1024]⟩ ⟨2, ![16384, 1024]⟩ (Layout.meshBlock [2, 2, 2] ![[0], []] c) x

theorem place : ∀ c : Dev nD, ((Layout.meshBlock (n := nD) [2, 2, 2] ![[0], []] c) 0).val = (half c).val
    ∧ ((Layout.meshBlock (n := nD) [2, 2, 2] ![[0], []] c) 1).val = 0 := by decide

theorem block_apply (x : (⟨2, ![16384, 1024]⟩ : Shape).Idx → EReal) (c : Dev nD) (i : S8192x1024.Idx) :
    blockOf x c i = x (at_half (half c) i) := by
  unfold blockOf
  rw [Layout.blockN_apply]
  refine congrArg x (funext fun b => Fin.ext ?_)
  rw [Layout.TilesN.idx_val]
  match b with
  | ⟨0, _⟩ => exact congrArg (fun n => n * 8192 + (i 0).val) (place c).1
  | ⟨1, _⟩ =>
    refine (congrArg (fun n => n * 1024 + (i 1).val) (place c).2).trans ?_
    show 0 * 1024 + (i 1).val = (i 1).val
    omega

/-- Over exact numbers, rounding changes nothing, and the order of two summands does not matter. -/
theorem result (x : (⟨2, ![16384, 1024]⟩ : Shape).Idx → EReal) (X : Dev nD → S8192x1024.Idx → Elt Ideal .f32)
    (hX : ∀ c, X c = blockOf x c) (c : Dev nD) : outV X c = sumOf (F := Ideal) x := by
  funext i
  rw [sumOf_apply]
  show X c i + X (src c (row i)) i = _
  rw [hX, hX, block_apply, block_apply]
  have hs := src_across c (row i)
  have hc := c.isLt
  change c.val < 8 at hc
  rcases Nat.lt_or_ge c.val 4 with h | h
  · rw [show half c = 0 from Fin.ext (by show c.val / 4 = 0; omega),
      show half (src c (row i)) = 1 from Fin.ext (by show (src c (row i)).val / 4 = 1; omega)]
  · rw [show half c = 1 from Fin.ext (by show c.val / 4 = 1; omega),
      show half (src c (row i)) = 0 from Fin.ext (by show (src c (row i)).val / 4 = 0; omega)]
    exact add_comm _ _

end Cert.KernelIdeal.Hop

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Result
public import Idealize.ShloMosaic.Adequacy
public import Idealize.ShloMosaic.Init

@[expose] public section

noncomputable section

namespace Cert.Proof

open Idealize.ShloMosaic Idealize.SL.Sem

/-- The kernel, over machine words: the same run, read at the words. -/
theorem frame_kernel : Cert.quiescent_Kernel := fun m ρ _ =>
  (θ_run Cert.KernelIdeal.defs _ _).mono (fun _ h => ⟨fun c => (h.1 c).1, h.2⟩) (Cert.KernelIdeal.Hop.run_main (F := Bits) m ρ)

/-- The kernel, over exact numbers. -/
theorem frame_ideal : Cert.quiescent_KernelIdeal := fun m ρ _ =>
  (θ_run Cert.KernelIdeal.defs _ _).mono (fun _ h => ⟨fun c => (h.1 c).1, h.2⟩) (Cert.KernelIdeal.Hop.run_main (F := Ideal) m ρ)

theorem frame_reference : Cert.quiescent_ReferenceIdeal := fun m ρ _ =>
  (θ_run Cert.ReferenceIdeal.defs _ _).mono (fun _ h => ⟨fun c => (h.1 c).1, h.2⟩) (Cert.ReferenceIdeal.Fold.run_main (F := Ideal) m ρ)

/-- On every device the result is the reference's. -/
theorem value : Cert.algebraic_KernelIdeal_ReferenceIdeal := fun m ρ m' ρ' _ hm =>
  ⟨Cert.ReferenceIdeal.Fold.sumOf (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.KernelIdeal.Hop.result _ (Cert.KernelIdeal.Hop.argOf m) hm c), (h.1 c).1⟩)
      (Cert.KernelIdeal.Hop.run_main (F := Ideal) m ρ),
    (θ_run Cert.ReferenceIdeal.defs _ _).mono (fun _ h => ⟨(h.1 0).2, (h.1 0).1⟩) (Cert.ReferenceIdeal.Fold.run_main (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
